-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_finite_maximum [hPre_rows_have_a_finite_maximum : Cert.Pre_rows_have_a_finite_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_finite_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_finite_maximum [hPre_rows_have_a_finite_maximum : Cert.Pre_rows_have_a_finite_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_finite_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_finite_maximum [hKernelIdeal : Cert.KernelIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_finite_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_finite_maximum [hReferenceIdeal : Cert.ReferenceIdeal.Facts] [hPre_rows_have_a_finite_maximum : Cert.Pre_rows_have_a_finite_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_finite_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e_over_t" .f32 0x3FE6D4CA#32 (((Real.log 2)⁻¹ * (13421773 / 16777216)⁻¹ : ℝ) : EReal)

def algebraic_KernelIdeal_ReferenceIdeal_pre_rows_have_a_finite_maximum [hKernelIdeal : Cert.KernelIdeal.Facts] [hReferenceIdeal : Cert.ReferenceIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_finite_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_finite_maximum : Cert.Pre_rows_have_a_finite_maximum.Facts),
    quiescent_Kernel (hKernel := hKernel)
    ∧ quiescent_KernelIdeal (hKernelIdeal := hKernelIdeal)
    ∧ quiescent_KernelIdeal_pre_rows_have_a_finite_maximum (hKernelIdeal := hKernelIdeal) (hPre_rows_have_a_finite_maximum := hPre_rows_have_a_finite_maximum)
    ∧ quiescent_ReferenceIdeal (hReferenceIdeal := hReferenceIdeal)
    ∧ quiescent_ReferenceIdeal_pre_rows_have_a_finite_maximum (hReferenceIdeal := hReferenceIdeal) (hPre_rows_have_a_finite_maximum := hPre_rows_have_a_finite_maximum)
    ∧ preserves_Kernel_KernelIdeal
    ∧ algebraic_KernelIdeal_ReferenceIdeal_pre_rows_have_a_finite_maximum (hKernelIdeal := hKernelIdeal) (hReferenceIdeal := hReferenceIdeal) (hPre_rows_have_a_finite_maximum := hPre_rows_have_a_finite_maximum)
-- ==== Pre_rows_have_a_finite_maximum.lean ====
abbrev S2x128x151936 : Shape := ⟨3, ![2, 128, 151936]⟩
abbrev S_ : Shape := ⟨0, ![]⟩
abbrev S2x128 : Shape := ⟨2, ![2, 128]⟩

class Facts : Prop where
  bitsLt_bf16_f32 : FTy.bits .bf16 < FTy.bits .f32
  reducesTo_S2x128x151936_S2x128_d2 : S2x128x151936.ReducesTo [2] S2x128
  h_S_ : 0 < S_.numel
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S2x128x151936 .bf16) : IVec S_ 1 :=
  let main_v0 : FVec F S2x128x151936 .f32 := (extf .f32 · bitsLt_bf16_f32) main_arg0
  let main_cst : FVec F S_ .f32 := constant S_ .f32 0xFF800000#32
  let main_v1 : FVec F S2x128 .f32 := (fun x v => Host.reduce FloatOps.maximumf x v reducesTo_S2x128x151936_S2x128_d2 h_S_) main_v0 main_cst
  let main_cst_0 : FVec F S_ .f32 := constant S_ .f32 0xFF800000#32
  let main_v2 : FVec F S2x128 .f32 := broadcastInDim S2x128 ![] bcast_S_S2x128 main_cst_0
  let main_v3 : IVec S2x128 1 := cmpf .ogt main_v1 main_v2
  let main_cst_1 : FVec F S_ .f32 := constant S_ .f32 0x7F800000#32
  let main_v4 : FVec F S2x128 .f32 := broadcastInDim S2x128 ![] bcast_S_S2x128 main_cst_1
  let main_v5 : IVec S2x128 1 := cmpf .olt main_v1 main_v4
  let main_v6 : IVec S2x128 1 := andi main_v3 main_v5
  let main_c : IVec S_ 1 := constantI S_ 1 1#1
  let main_v7 : IVec S_ 1 := (fun x v => Host.reduce IntOp.andi x v reducesTo_S2x128_S_d0_1 h_S_) main_v6 main_c
  main_v7
-- ==== Kernel.lean ====
abbrev S2x128x151936 : Shape := ⟨3, ![2, 128, 151936]⟩
abbrev S256x151936 : Shape := ⟨2, ![256, 151936]⟩
abbrev S256x128 : Shape := ⟨2, ![256, 128]⟩
abbrev S32x151936 : Shape := ⟨2, ![32, 151936]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S256x1 : Shape := ⟨2, ![256, 1]⟩
abbrev S256 : Shape := ⟨1, ![256]⟩
abbrev S2x128 : Shape := ⟨2, ![2, 128]⟩

abbrev nBuf : Space → Nat
  | .hbm => 12
  | .vmem => 9
  | .smem => 0
  | _ => 0

abbrev bufTy : (tb : Table) → Fin (tcTables nBuf tb) → BufTy
  | .hbm, ⟨0, _⟩ => ⟨S2x128x151936, .bf16⟩
  | .hbm, ⟨1, _⟩ => ⟨S256x151936, .bf16⟩
  | .hbm, ⟨2, _⟩ => ⟨S256x128, .f32⟩
  | .hbm, ⟨3, _⟩ => ⟨S256x151936, .fp8e4m3⟩
  | .hbm, ⟨4, _⟩ => ⟨S256x128, .f32⟩
  | .hbm, ⟨5, _⟩ => ⟨S256x1, .f32⟩
  | .hbm, ⟨6, _⟩ => ⟨S256, .f32⟩
  | .hbm, ⟨7, _⟩ => ⟨S2x128, .f32⟩
  | .hbm, ⟨8, _⟩ => ⟨S2x128x151936, .fp8e4m3⟩
  | .hbm, ⟨9, _⟩ => ⟨S256x1, .f32⟩
  | .hbm, ⟨10, _⟩ => ⟨S256, .f32⟩
  | .hbm, ⟨11, _⟩ => ⟨S2x128, .f32⟩
  | .local _ .vmem, ⟨0, _⟩ => ⟨S32x151936, .bf16⟩
  | .local _ .vmem, ⟨1, _⟩ => ⟨S32x151936, .bf16⟩
  | .local _ .vmem, ⟨2, _⟩ => ⟨S32x128, .f32⟩
  | .local _ .vmem, ⟨3, _⟩ => ⟨S32x128, .f32⟩
  | .local _ .vmem, ⟨4, _⟩ => ⟨S32x151936, .fp8e4m3⟩
  | .local _ .vmem, ⟨5, _⟩ => ⟨S32x151936, .fp8e4m3⟩
  | .local _ .vmem, ⟨6, _⟩ => ⟨S32x128, .f32⟩
  | .local _ .vmem, ⟨7, _⟩ => ⟨S32x128, .f32⟩
  | .local _ .vmem, ⟨8, _⟩ => ⟨S32x151936, .f32⟩
  | _, _ => ⟨S2x128x151936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c148_i32 : BitVec 32 := 148#32
  let v1 : BitVec 32 := Scalar.addi c0_i32 c148_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v122 : BitVec 32 := Scalar.muli arg6 c1024_i32
  v122
def k0_off1 (k0_t1 : Fin k0_t1_loop.trips) (c0_i32_60 : BitVec 32) : Fin 2 → Nat :=
  let c0_61 : Index := 0#32
  let c0_i32 : BitVec 32 := 0#32
  let c1_i32 : BitVec 32 := 1#32
  let arg6 : BitVec 32 := Scf.iv c0_i32 c1_i32 k0_t1
  let c1024_i32 : BitVec 32 := 1024#32
  let v122 : BitVec 32 := Scalar.muli arg6 c1024_i32
  let v123 : BitVec 32 := v122
  let v124 : BitVec 32 := Scalar.addi v123 c0_i32_60
  let v125 : Index := Scalar.indexCast v124
  ![0, v125.toNat]
@[reducible] def k0_t2_loop : Scf.Loop 32 :=
  let c0_i32_5 : BitVec 32 := 0#32
  let c148_i32_6 : BitVec 32 := 148#32
  let v18 : BitVec 32 := Scalar.addi c0_i32_5 c148_i32_6
  let c1_i32_7 : BitVec 32 := 1#32
  ⟨c0_i32_5, v18, c1_i32_7⟩
def k0_mult2 (k0_t2 : Fin k0_t2_loop.trips) : BitVec 32 :=
  let c0_i32_5 : BitVec 32 := 0#32
  let c1_i32_7 : BitVec 32 := 1#32
  let arg6 : BitVec 32 := Scf.iv c0_i32_5 c1_i32_7 k0_t2
  let c1024_i32 : BitVec 32 := 1024#32
  let v122 : BitVec 32 := Scalar.muli arg6 c1024_i32
  v122
def k0_off2 (k0_t2 : Fin k0_t2_loop.trips) (c0_i32_60 : BitVec 32) : Fin 2 → Nat :=
  let c0_61 : Index := 0#32
  let c0_i32_5 : BitVec 32 := 0#32
  let c1_i32_7 : BitVec 32 := 1#32
  let arg6 : BitVec 32 := Scf.iv c0_i32_5 c1_i32_7 k0_t2
  let c1024_i32 : BitVec 32 := 1024#32
  let v122 : BitVec 32 := Scalar.muli arg6 c1024_i32
  let v123 : BitVec 32 := v122
  let v124 : BitVec 32 := Scalar.addi v123 c0_i32_60
  let v125 : Index := Scalar.indexCast v124
  ![0, v125.toNat]
@[reducible] def k0_t3_loop : Scf.Loop 32 :=
  let c0_i32_38 : BitVec 32 := 0#32
  let c148_i32_39 : BitVec 32 := 148#32
  let v97 : BitVec 32 := Scalar.addi c0_i32_38 c148_i32_39
  let c1_i32_40 : BitVec 32 := 1#32
  ⟨c0_i32_38, v97, c1_i32_40⟩
def k0_mult3 (k0_t3 : Fin k0_t3_loop.trips) : BitVec 32 :=
  let c0_i32_38 : BitVec 32 := 0#32
  let c1_i32_40 : BitVec 32 := 1#32
  let arg6 : BitVec 32 := Scf.iv c0_i32_38 c1_i32_40 k0_t3
  let c1024_i32 : BitVec 32 := 1024#32
  let v122 : BitVec 32 := Scalar.muli arg6 c1024_i32
  v122
def k0_off3 (k0_t3 : Fin k0_t3_loop.trips) (c0_i32_60 : BitVec 32) : Fin 2 → Nat :=
  let c0_61 : Index := 0#32
  let c0_i32_38 : BitVec 32 := 0#32
  let c1_i32_40 : BitVec 32 := 1#32
  let arg6 : BitVec 32 := Scf.iv c0_i32_38 c1_i32_40 k0_t3
  let c1024_i32 : BitVec 32 := 1024#32
  let v122 : BitVec 32 := Scalar.muli arg6 c1024_i32
  let v123 : BitVec 32 := v122
  let v124 : BitVec 32 := Scalar.addi v123 c0_i32_60
  let v125 : Index := Scalar.indexCast v124
  ![0, v125.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x151936 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x151936 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "log2e_over_t" => some (((Real.log 2)⁻¹ * (13421773 / 16777216)⁻¹ : ℝ) : EReal)
  | _ => none
-- ==== ReferenceIdeal.lean ====
abbrev S2x128x151936 : Shape := ⟨3, ![2, 128, 151936]⟩
abbrev S_ : Shape := ⟨0, ![]⟩
abbrev S2x128 : Shape := ⟨2, ![2, 128]⟩
abbrev S2x128x1 : Shape := ⟨3, ![2, 128, 1]⟩

abbrev nBuf : Space → Nat
  | .hbm => 52
  | .vmem => 2
  | .smem => 0
  | _ => 0

abbrev bufTy : (tb : Table) → Fin (tcTables nBuf tb) → BufTy
  | .hbm, ⟨0, _⟩ => ⟨S2x128x151936, .bf16⟩
  | .hbm, ⟨1, _⟩ => ⟨S2x128x151936, .f32⟩
  | .hbm, ⟨2, _⟩ => ⟨S_, .f32⟩
  | .hbm, ⟨3, _⟩ => ⟨S2x128x151936, .f32⟩
  | .hbm, ⟨4, _⟩ => ⟨S2x128x151936, .f32⟩
  | .hbm, ⟨5, _⟩ => ⟨S_, .f32⟩
  | .hbm, ⟨6, _⟩ => ⟨S2x128, .f32⟩
  | .hbm, ⟨7, _⟩ => ⟨S2x128x1, .f32⟩
  | .hbm, ⟨8, _⟩ => ⟨S2x128x151936, .f32⟩
  | .hbm, ⟨9, _⟩ => ⟨S2x128x151936, .f32⟩
  | .hbm, ⟨10, _⟩ => ⟨S2x128x151936, .f32⟩
  | .hbm, ⟨11, _⟩ => ⟨S_, .f32⟩
  | .hbm, ⟨12, _⟩ => ⟨S2x128, .f32⟩
  | .hbm, ⟨13, _⟩ => ⟨S2x128x1, .f32⟩
  | .hbm, ⟨14, _⟩ => ⟨S2x128x1, .f32⟩
  | .hbm, ⟨15, _⟩ => ⟨S2x128, .f32⟩
  | .hbm, ⟨16, _⟩ => ⟨S2x128x151936, .f32⟩
  | .hbm, ⟨17, _⟩ => ⟨S2x128x151936, .f32⟩
  | .hbm, ⟨18, _⟩ => ⟨S_, .f32⟩
  | .hbm, ⟨19, _⟩ => ⟨S2x128x1, .f32⟩
  | .hbm, ⟨20, _⟩ => ⟨S2x128x1, .f32⟩
  | .hbm, ⟨21, _⟩ => ⟨S_, .f32⟩
  | .hbm, ⟨22, _⟩ => ⟨S2x128x1, .f32⟩
  | .hbm, ⟨23, _⟩ => ⟨S2x128x1, .f32⟩
  | .hbm, ⟨24, _⟩ => ⟨S2x128x1, .f32⟩
  | .hbm, ⟨25, _⟩ => ⟨S_, .f32⟩
  | .hbm, ⟨26, _⟩ => ⟨S_, .f32⟩
  | .hbm, ⟨27, _⟩ => ⟨S2x128x1, .f32⟩
  | .hbm, ⟨28, _⟩ => ⟨S2x128x1, .f32⟩
  | .hbm, ⟨29, _⟩ => ⟨S2x128x1, .f32⟩
  | .hbm, ⟨30, _⟩ => ⟨S_, .f32⟩
  | .hbm, ⟨31, _⟩ => ⟨S2x128x1, .f32⟩
  | .hbm, ⟨32, _⟩ => ⟨S2x128x1, .f32⟩
  | .hbm, ⟨33, _⟩ => ⟨S_, .f32⟩
  | .hbm, ⟨34, _⟩ => ⟨S2x128x1, .f32⟩
  | .hbm, ⟨35, _⟩ => ⟨S2x128x1, .f32⟩
  | .hbm, ⟨36, _⟩ => ⟨S2x128x1, .f32⟩
  | .hbm, ⟨37, _⟩ => ⟨S_, .f32⟩
  | .hbm, ⟨38, _⟩ => ⟨S2x128x1, .f32⟩
  | .hbm, ⟨39, _⟩ => ⟨S2x128x1, .f32⟩
  | .hbm, ⟨40, _⟩ => ⟨S2x128x151936, .f32⟩
  | .hbm, ⟨41, _⟩ => ⟨S2x128x151936, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x128x151936, .f32⟩
  | .hbm, ⟨46, _⟩ => ⟨S2x128x151936, .f32⟩
  | .hbm, ⟨47, _⟩ => ⟨S_, .f32⟩
  | .hbm, ⟨48, _⟩ => ⟨S2x128x151936, .f32⟩
  | .hbm, ⟨49, _⟩ => ⟨S2x128x151936, .f32⟩
  | .hbm, ⟨50, _⟩ => ⟨S2x128x151936, .fp8e4m3⟩
  | .hbm, ⟨51, _⟩ => ⟨S2x128, .f32⟩
  | .local _ .vmem, ⟨0, _⟩ => ⟨S2x128x151936, .f32⟩
  | .local _ .vmem, ⟨1, _⟩ => ⟨S2x128x151936, .fp8e4m3⟩
  | _, _ => ⟨S2x128x151936, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_7 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_cst_9 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x128x151936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x151936 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsRun.lean ====
/- The kernel's body runs to its end, whatever floats are, with nothing said of what it stores. -/
module

public import proofs.«01_k».proof.Proof.Gen.Kernel.Frame.Runs

@[expose] public section

set_option maxRecDepth 16384

noncomputable section

namespace Cert.Kernel

open Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- From its whole buffers, the input's at `x0` and the others at any contents, the body runs to its end: the
    input's buffer is as it was, and each other buffer holds some contents. -/
theorem bodyRuns (c : Dev nD) (i : grid0.Coords) (arg1 : Memref sig .tc .vmem S32x151936 .bf16) (harg1 : arg1.IsWhole) (arg2 : Memref sig .tc .vmem S32x128 .f32) (harg2 : arg2.IsWhole) (arg3 : Memref sig .tc .vmem S32x151936 .fp8e4m3) (harg3 : arg3.IsWhole) (arg4 : Memref sig .tc .vmem S32x128 .f32) (harg4 : arg4.IsWhole) (arg5 : Memref sig .tc .vmem S32x151936 .f32) (harg5 : arg5.IsWhole)
    (x0 : Vec F S32x151936 .bf16) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)) -∗ K ⟨⟩))
          ⊢ wp frame (wpE (defs₀ (F := F)) Variants.none c none) E (cc0_softmax_e4m3 i arg1 harg1 arg2 harg2 arg3 harg3 arg4 harg4 arg5 harg5) K := by
    intro E K
    simp only [cc0_softmax_e4m3_eq_skeleton]; unfold cc0_softmax_e4m3_skel
    simp only [k0_part6_eq_skeleton, k0_part7_eq_skeleton, k0_part8_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    iexists _, _; isplitr; swap; · iexact HS0
    ipureintro; rfl

end Cert.Kernel

end
-- ==== Proof.BitsFrame.lean ====
/- Every run of the kernel ends, with its argument unchanged and every semaphore at zero: the claim that the kernel keeps
   its frame, which says nothing of the three results. -/
module

public import proofs.«01_k».proof.Proof.BitsRun
public import Idealize.ShloMosaic.Lib.Claim

@[expose] public section

set_option maxRecDepth 16384

noncomputable section

namespace Cert.Kernel

open Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers that the host operations after the kernel write. -/
def T0 : Finset (Ref sig .tc) := {main_v2, main_v3, main_v4, main_v5, main_v6, main_v7, main_v8}

/-- Each host operation after the kernel writes to one of those. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run that ends with the kernel's arrays as the relation `rdat` has them leaves the program's argument unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Finset.mem_sdiff.mpr ⟨Pipeline.mem_restRefs_of main_arg0 (by decide) (by decide), by decide⟩)).trans (V_main_arg0 m c)) h

/-! ## The pipeline's proof data -/

/-- The output windows of whose contents nothing is said: all three. -/
def forgets0 : Fin 4 → Bool := fun w => w.val == 1 || w.val == 2 || w.val == 3

/-- The pipeline's proof data on core `c`: the arrays as the region finds them; after the body at point `t` the input's
    buffer at its block, and the outputs' at contents without a name. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves in the input's buffer. -/
theorem after0_0 (c : Dev nD) (t : Fin cfg0.N) : (dats m 0 c).after 0 t = iblk m c 0 t := by dsimp only [dats]

/-- The input's staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d))

/-- The body at any point: the input's buffer holds its block, so the body's run applies; it borrows the scratch buffer at
    some contents and gives it back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply ((bodyRuns c (grid0.coords t) _ _ _ _ _ _ _ _ _ _ (iblk m c 0 t)) Set.univ _)
  isplitl [H0]; · iexact H0
  isplitl [H1]; · iexists _; iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body that the table names at point `t` is the kernel's body on the staging buffers of that point. -/
theorem defs₀_row (t : Fin cfg0.N) :
    defs₀ (F := F) .tc cfg0.body (cfg0.bodyArgs t (cfg0.slots t)) = bodyAt0 t := by
  unfold defs₀; rw [Defs.onTc_tc]

/-- The obligation that the pipeline's run asks of the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- From zero counters, every run of the program ends with the input array unchanged, the buffers outside the ones written
    by the host operations as they were, and every counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The program's argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_rel m ρ (fun c => (dats m 0 c).toRForget forgets0) (A_eq m) (run_main m ρ)

/-- The program keeps its frame: its argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel

end
-- ==== Proof.KernelRun.lean ====
/- The kernel's body run once, on any staging buffers: what its stores leave in each output buffer, as lists of
   pieces. The scratch buffer's contents before the body are a parameter, because the codes are computed from what
   the scratch buffer holds after the second loop. -/
module

public import proofs.«01_k».proof.Proof.Gen.KernelIdeal.Frame.Runs

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The pieces that the body's stores leave in each output's buffer (last first), with the proof that the body runs
    from the input block `x0` and a scratch buffer holding `fs0` to those pieces. The pieces are what the run finds. -/
noncomputable def kernelRun (c : Dev nD) (i : grid0.Coords) (arg1 : Memref sig .tc .vmem S32x151936 .bf16) (harg1 : arg1.IsWhole) (arg2 : Memref sig .tc .vmem S32x128 .f32) (harg2 : arg2.IsWhole) (arg3 : Memref sig .tc .vmem S32x151936 .fp8e4m3) (harg3 : arg3.IsWhole) (arg4 : Memref sig .tc .vmem S32x128 .f32) (harg4 : arg4.IsWhole) (arg5 : Memref sig .tc .vmem S32x151936 .f32) (harg5 : arg5.IsWhole)
    (x0 : Vec F S32x151936 .bf16) (fs0 : BufTy.Contents (Elt F) arg5.view.ty) :
    Σ' (L1 : List (View.Piece (Elt F) S32x128 .f32)), Σ' (L2 : List (View.Piece (Elt F) S32x151936 .fp8e4m3)), { L3 : List (View.Piece (Elt F) S32x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (arg5.view.loc (c : Thread nD τ) ↦[arg5.view.set]{fullShare} fs0)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc0_softmax_e4m3 i arg1 harg1 arg2 harg2 arg3 harg3 arg4 harg4 arg5 harg5) K } := by
  refine ⟨?_, ?_, ?_, fun E K => ?run⟩
  case run =>
    simp only [cc0_softmax_e4m3_eq_skeleton]; unfold cc0_softmax_e4m3_skel
    simp only [k0_part6_eq_skeleton, k0_part7_eq_skeleton, k0_part8_eq_skeleton]
    unfold owns
    iintro ⟨⟨%f0, %hf0, H0⟩, ⟨%d1, %f1, -, H1⟩, ⟨%d2, %f2, -, H2⟩, ⟨%d3, %f3, -, H3⟩, HS0, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    iexists _, _; isplitr; swap; · iexact HS0
    ipureintro; rfl

end Cert.KernelIdeal

end
-- ==== Proof.Tiles.lean ====
/- How the kernel walks over a row: columns by number, the tile of 128 columns that a load reads, and the loops'
   trips as runs of eight tiles. -/
module

public import proofs.«01_k».proof.Proof.KernelRun
public import Idealize.ShloMosaic.Lib.WholeRead
public import Idealize.ShloMosaic.Lib.Pointwise

@[expose] public section

set_option maxRecDepth 16384

noncomputable section

namespace Cert.KernelIdeal

open Gen
open Idealize.ShloMosaic Idealize.ShloMosaic.TcCoe

/-- The entry of a block in row `r` and column number `n`; past the last column, `⊥`. -/
def col (x : S32x151936.Idx → EReal) (r : Fin 32) (n : ℕ) : EReal :=
  if h : n < 151936 then x (ix2 r ⟨n, h⟩) else ⊥

/-- A column number below the width reads the block there. -/
theorem col_of_lt (x : S32x151936.Idx → EReal) (r : Fin 32) (n : ℕ) (h : n < 151936) : col x r n = x (ix2 r ⟨n, h⟩) :=
  dif_pos h

/-- An entry of a block, by its row and its column number. -/
theorem eq_col (x : S32x151936.Idx → EReal) (y : S32x151936.Idx) : x y = col x (y 0) (y 1).val := by
  rw [col_of_lt x (y 0) (y 1).val (y 1).isLt]
  exact congrArg x (ix2_eta y).symm

/-- The entry that the tile at column `o` holds at `y`. -/
theorem emb_tile (off : Fin 2 → ℕ) (o : ℕ) (ho : off = ![0, o]) (inb : ∀ a, off a + (![32, 128] : Fin 2 → ℕ) a ≤ S32x151936.size a)
    (x : S32x151936.Idx → EReal) (y : S32x128.Idx) :
    x ((Rect.unit (s := S32x151936) off ![32, 128] inb).emb y) = col x (y 0) (o + (y 1).val) := by
  subst ho
  refine (eq_col x _).trans (congrArg₂ (col x) (Fin.ext ?_) ?_)
  · show 0 + 1 * (y 0).val = (y 0).val
    omega
  · show o + 1 * (y 1).val = o + (y 1).val
    omega

/-- A load of the tile at column `o` from a buffer that holds the block `x` reads the block's entries there. -/
theorem read_tile (arg : Memref sig .tc .vmem S32x151936 .bf16) (harg : arg.IsWhole)
    (x : Vec Ideal S32x151936 .bf16) (off : Fin 2 → ℕ) (o : ℕ) (ho : off = ![0, o])
    (inb : ∀ a, off a + (![32, 128] : Fin 2 → ℕ) a ≤ S32x151936.size a) (y : S32x128.Idx) :
    View.readAt (Elt Ideal) arg.view (Rect.unit (s := S32x151936) off ![32, 128] inb).toLoadRect (harg.unread x) y
      = col x (y 0) (o + (y 1).val) :=
  (congrFun (harg.read_unread x) _).trans (emb_tile off o ho inb x y)

end Cert.KernelIdeal

end
-- ==== Proof.LoopMax.lean ====
/- The first loop: the running maximum of a row, one lane of 128 at a time. -/
module

public import proofs.«01_k».proof.Proof.Tiles

@[expose] public section

set_option maxRecDepth 16384
set_option backward.isDefEq.respectTransparency false

noncomputable section

namespace Cert.KernelIdeal

open Gen
open Idealize.ShloMosaic Idealize.ShloMosaic.TcCoe Idealize.ShloMosaic.Tactic

variable (𝒱 : Variants) (c : Dev nD) (bd : Option 𝒱.V) (i : grid0.Coords)
  (arg1 : Memref sig .tc .vmem S32x151936 .bf16) (harg1 : arg1.IsWhole) (arg2 : Memref sig .tc .vmem S32x128 .f32) (harg2 : arg2.IsWhole)
  (arg3 : Memref sig .tc .vmem S32x151936 .fp8e4m3) (harg3 : arg3.IsWhole) (arg4 : Memref sig .tc .vmem S32x128 .f32) (harg4 : arg4.IsWhole)
  (arg5 : Memref sig .tc .vmem S32x151936 .f32) (harg5 : arg5.IsWhole)

/-- The maximum, in row `r`, of the first `n` tiles at lane `l`. -/
def tileMax (x : S32x151936.Idx → EReal) (r : Fin 32) (l n : ℕ) : EReal :=
  (Finset.range n).sup fun j => col x r (128 * j + l)

/-- Over no tiles the maximum is `⊥`. -/
theorem tileMax_zero (x : S32x151936.Idx → EReal) (r : Fin 32) (l : ℕ) : tileMax x r l 0 = ⊥ := rfl

/-- One tile more. -/
theorem tileMax_succ (x : S32x151936.Idx → EReal) (r : Fin 32) (l n : ℕ) :
    tileMax x r l (n + 1) = max (tileMax x r l n) (col x r (128 * n + l)) := by
  unfold tileMax
  rw [Finset.range_add_one, Finset.sup_insert, sup_comm]

/-- A trip of the first loop takes the maximum with eight tiles. -/
theorem tripMax (x : Vec Ideal S32x151936 .bf16) (k : Fin k0_t1_loop.trips) (acc : FVec Ideal S32x128 .bf16) (y : S32x128.Idx) :
    tripR_k0_t1 (F := Ideal) 𝒱 c bd i arg1 harg1 arg2 harg2 arg3 harg3 arg4 harg4 arg5 harg5 (harg1.unread x) k acc y
      = max (acc y) (max (max (max (col x (y 0) (1024 * k.val + 0 + (y 1).val)) (col x (y 0) (1024 * k.val + 128 + (y 1).val)))
            (max (col x (y 0) (1024 * k.val + 256 + (y 1).val)) (col x (y 0) (1024 * k.val + 384 + (y 1).val))))
          (max (max (col x (y 0) (1024 * k.val + 512 + (y 1).val)) (col x (y 0) (1024 * k.val + 640 + (y 1).val)))
            (max (col x (y 0) (1024 * k.val + 768 + (y 1).val)) (col x (y 0) (1024 * k.val + 896 + (y 1).val))))) := by
  unfold tripR_k0_t1 trip_k0_t1
  dsimp only
  have t (r : Fin 8) :=
    (congrFun (shapeCast_self _ shapeCasts_S32x128_S32x128) y).trans (read_tile arg1 harg1 x _ _ (k0_off1_eq k r) (k0_off1_inb k r) y)
  exact congrArg₂ max rfl (congrArg₂ max (congrArg₂ max (congrArg₂ max (t 0) (t 1)) (congrArg₂ max (t 2) (t 3)))
    (congrArg₂ max (congrArg₂ max (t 4) (t 5)) (congrArg₂ max (t 6) (t 7))))

/-- Before trip `k` the first loop carries the maximum of the first `8 k` tiles, lane by lane. -/
theorem loopMax (x : Vec Ideal S32x151936 .bf16) (k : ℕ) (hk : k ≤ 148) (y : S32x128.Idx) :
    st_k0_t1 (F := Ideal) 𝒱 c bd i arg1 harg1 arg2 harg2 arg3 harg3 arg4 harg4 arg5 harg5 (harg1.unread x) (k0_pay21 (F := Ideal)) k y
      = tileMax x (y 0) (y 1).val (8 * k) := by
  induction k with
  | zero =>
    show Ideal.ofBits .bf16 0xFF80#16 = ⊥
    simp [Ideal.ofBits, Ideal.ieee]
  | succ k ih =>
    have hlt : k < k0_t1_loop.trips := by
      have h : k0_t1_loop.trips = 148 := by decide +kernel
      omega
    rw [show k + 1 = (⟨k, hlt⟩ : Fin k0_t1_loop.trips).val + 1 from rfl, st_k0_t1_succ, tripMax, ih (by omega)]
    show _ = tileMax x (y 0) (y 1).val (8 * k + 1 + 1 + 1 + 1 + 1 + 1 + 1 + 1)
    simp only [tileMax_succ]
    simp only [show ∀ l, 1024 * k + 0 + l = 128 * (8 * k) + l from fun l => by omega,
      show ∀ l, 1024 * k + 128 + l = 128 * (8 * k + 1) + l from fun l => by omega,
      show ∀ l, 1024 * k + 256 + l = 128 * (8 * k + 1 + 1) + l from fun l => by omega,
      show ∀ l, 1024 * k + 384 + l = 128 * (8 * k + 1 + 1 + 1) + l from fun l => by omega,
      show ∀ l, 1024 * k + 512 + l = 128 * (8 * k + 1 + 1 + 1 + 1) + l from fun l => by omega,
      show ∀ l, 1024 * k + 640 + l = 128 * (8 * k + 1 + 1 + 1 + 1 + 1) + l from fun l => by omega,
      show ∀ l, 1024 * k + 768 + l = 128 * (8 * k + 1 + 1 + 1 + 1 + 1 + 1) + l from fun l => by omega,
      show ∀ l, 1024 * k + 896 + l = 128 * (8 * k + 1 + 1 + 1 + 1 + 1 + 1 + 1) + l from fun l => by omega]
    simp only [max_assoc]

end Cert.KernelIdeal

end
-- ==== Proof.Pieces.lean ====
/- Stores of tiles that walk over a block from its first column: what a buffer holds after them. -/
module

public import proofs.«01_k».proof.Proof.Tiles

@[expose] public section

set_option maxRecDepth 16384

noncomputable section

namespace Cert.KernelIdeal

open Gen
open Idealize.ShloMosaic Idealize.ShloMosaic.TcCoe

variable {e : EltTy}

/-- The pieces `L` hold the entries of the function `g` of row and column, and they cover the first `n` columns. -/
def Stored (g : Fin 32 → ℕ → Elt Ideal e) (n : ℕ) (L : List (View.Piece (Elt Ideal) S32x151936 e)) : Prop :=
  (∀ p ∈ L, ∀ x : p.1.shape.Idx, p.2 x = (fun y : S32x151936.Idx => g (y 0) (y 1).val) (p.1.emb x))
    ∧ ∀ y : S32x151936.Idx, (y 1).val < n → ∃ p ∈ L, y ∈ p.1.set

/-- No pieces cover no columns. -/
theorem Stored.nil (g : Fin 32 → ℕ → Elt Ideal e) : Stored g 0 [] :=
  ⟨fun _ h => absurd h List.not_mem_nil, fun _ h => absurd h (Nat.not_lt_zero _)⟩

/-- A function of row and column at an entry of the tile at column `o`. -/
theorem emb_tile_fun (g : Fin 32 → ℕ → Elt Ideal e) (off : Fin 2 → ℕ) (o : ℕ) (ho : off = ![0, o])
    (inb : ∀ a, off a + (![32, 128] : Fin 2 → ℕ) a ≤ S32x151936.size a) (y : S32x128.Idx) :
    (fun y : S32x151936.Idx => g (y 0) (y 1).val) ((Rect.unit (s := S32x151936) off ![32, 128] inb).emb y)
      = g (y 0) (o + (y 1).val) := by
  subst ho
  refine congrArg₂ g (Fin.ext ?_) ?_
  · show 0 + 1 * (y 0).val = (y 0).val
    omega
  · show o + 1 * (y 1).val = o + (y 1).val
    omega

/-- One tile more, stored next to the columns that are covered. -/
theorem Stored.cons {g : Fin 32 → ℕ → Elt Ideal e} {L : List (View.Piece (Elt Ideal) S32x151936 e)} (o : ℕ) (hL : Stored g o L)
    (off : Fin 2 → ℕ) (ho : off = ![0, o]) (inb : ∀ a, off a + (![32, 128] : Fin 2 → ℕ) a ≤ S32x151936.size a)
    (w : S32x128.Idx → Elt Ideal e) (hw : ∀ y, w y = g (y 0) (o + (y 1).val)) :
    Stored g (o + 128) (⟨Rect.unit (s := S32x151936) off ![32, 128] inb, w⟩ :: L) := by
  refine ⟨?_, fun y hy => ?_⟩
  · rintro p hp
    rcases List.mem_cons.1 hp with rfl | hp
    · exact fun x => (hw x).trans (emb_tile_fun g off o ho inb x).symm
    · exact hL.1 p hp
  · by_cases h : (y 1).val < o
    · obtain ⟨p, hp, hm⟩ := hL.2 y h
      exact ⟨p, List.mem_cons_of_mem _ hp, hm⟩
    · refine ⟨_, List.mem_cons_self, ?_⟩
      rw [Rect.mem_set_unit]
      subst ho
      intro a
      fin_cases a
      · exact ⟨Nat.zero_le _, (by have := (y 0).isLt; show (y 0).val < 0 + 32; exact (by omega : (y 0).val < 32 → (y 0).val < 0 + 32) this)⟩
      · exact ⟨Nat.le_of_not_lt h, hy⟩

/-- Once every column is covered, the buffer holds the function. -/
theorem Stored.read {g : Fin 32 → ℕ → Elt Ideal e} {L : List (View.Piece (Elt Ideal) S32x151936 e)} (hL : Stored g 151936 L)
    (arg : Memref sig .tc .vmem S32x151936 e) (f : BufTy.Contents (Elt Ideal) arg.view.ty) (y : S32x151936.Idx) :
    arg.view.read (Elt Ideal) (arg.view.writes (Elt Ideal) f L) y = g (y 0) (y 1).val :=
  View.read_writes_apply_of_pieces (Val := Elt Ideal) arg.view f (fun y : S32x151936.Idx => g (y 0) (y 1).val) L hL.1 y
    (hL.2 y (y 1).isLt)

/-- A load of the tile at column `o`, once every column is covered. -/
theorem Stored.readAt {g : Fin 32 → ℕ → Elt Ideal e} {L : List (View.Piece (Elt Ideal) S32x151936 e)} (hL : Stored g 151936 L)
    (arg : Memref sig .tc .vmem S32x151936 e) (f : BufTy.Contents (Elt Ideal) arg.view.ty) (off : Fin 2 → ℕ) (o : ℕ) (ho : off = ![0, o])
    (inb : ∀ a, off a + (![32, 128] : Fin 2 → ℕ) a ≤ S32x151936.size a) (y : S32x128.Idx) :
    View.readAt (Elt Ideal) arg.view (Rect.unit (s := S32x151936) off ![32, 128] inb).toLoadRect (arg.view.writes (Elt Ideal) f L) y
      = g (y 0) (o + (y 1).val) :=
  (hL.read arg f _).trans (emb_tile_fun g off o ho inb y)

end Cert.KernelIdeal

end
-- ==== Proof.LoopExp.lean ====
/- The second loop: the exponentials, written to the scratch buffer and summed one lane of 128 at a time. -/
module

public import proofs.«01_k».proof.Proof.Pieces

@[expose] public section

set_option maxRecDepth 16384
set_option backward.isDefEq.respectTransparency false

noncomputable section

namespace Cert.KernelIdeal

open Gen
open Idealize.ShloMosaic Idealize.ShloMosaic.TcCoe Idealize.ShloMosaic.Tactic

/-- The constant that the kernel multiplies by before it takes a power of two. -/
def kap : EReal := Named.named (F := Ideal) (φ := .f32) κ "log2e_over_t" 0x3FE6D4CA#32

/-- The exponential that the kernel takes of an entry `a` under the row maximum `m`. -/
def term (a m : EReal) : EReal := Ideal.exp2 ((a - m) * kap)

/-- The exponential of the entry in row `r` and column `n`, where `M` holds the row maxima. -/
def expo (x : S32x151936.Idx → EReal) (M : Fin 32 → EReal) (r : Fin 32) (n : ℕ) : EReal := term (col x r n) (M r)

/-- The sum, in row `r`, of the exponentials of the first `n` tiles at lane `l`. -/
def tileSum (x : S32x151936.Idx → EReal) (M : Fin 32 → EReal) (r : Fin 32) (l n : ℕ) : EReal :=
  ∑ j ∈ Finset.range n, expo x M r (128 * j + l)

/-- One tile more. -/
theorem tileSum_succ (x : S32x151936.Idx → EReal) (M : Fin 32 → EReal) (r : Fin 32) (l n : ℕ) :
    tileSum x M r l (n + 1) = tileSum x M r l n + expo x M r (128 * n + l) := Finset.sum_range_succ _ _

variable (𝒱 : Variants) (c : Dev nD) (bd : Option 𝒱.V) (i : grid0.Coords)
  (arg1 : Memref sig .tc .vmem S32x151936 .bf16) (harg1 : arg1.IsWhole) (arg2 : Memref sig .tc .vmem S32x128 .f32) (harg2 : arg2.IsWhole)
  (arg3 : Memref sig .tc .vmem S32x151936 .fp8e4m3) (harg3 : arg3.IsWhole) (arg4 : Memref sig .tc .vmem S32x128 .f32) (harg4 : arg4.IsWhole)
  (arg5 : Memref sig .tc .vmem S32x151936 .f32) (harg5 : arg5.IsWhole)
  (v2 : FVec Ideal S32x128 .bf16) (v3 v5 v7 : Vec Ideal S32x128 .bf16) (M : Fin 32 → EReal)

/-- A trip of the second loop adds eight tiles of exponentials to the sum that it carries. -/
theorem tripExp (hM : ∀ y, k0_pay22 (F := Ideal) v2 v3 v5 v7 y = M (y 0)) (x : Vec Ideal S32x151936 .bf16) (k : Fin k0_t2_loop.trips) (acc : FVec Ideal S32x128 .f32) (y : S32x128.Idx) :
    tripR_k0_t2 (F := Ideal) 𝒱 c bd i arg1 harg1 arg2 harg2 arg3 harg3 arg4 harg4 arg5 harg5 v2 v3 v5 v7 (harg1.unread x) k acc y
      = acc y + (((expo x M (y 0) (1024 * k.val + 0 + (y 1).val) + expo x M (y 0) (1024 * k.val + 128 + (y 1).val))
            + (expo x M (y 0) (1024 * k.val + 256 + (y 1).val) + expo x M (y 0) (1024 * k.val + 384 + (y 1).val)))
          + ((expo x M (y 0) (1024 * k.val + 512 + (y 1).val) + expo x M (y 0) (1024 * k.val + 640 + (y 1).val))
            + (expo x M (y 0) (1024 * k.val + 768 + (y 1).val) + expo x M (y 0) (1024 * k.val + 896 + (y 1).val)))) := by
  unfold tripR_k0_t2 trip_k0_t2
  dsimp only
  have t (r : Fin 8) := congrArg₂ term
    ((congrFun (shapeCast_self _ shapeCasts_S32x128_S32x128) y).trans (read_tile arg1 harg1 x _ _ (k0_off2_eq k r) (k0_off2_inb k r) y)) (hM y)
  exact congrArg₂ (fun a b : EReal => a + b) rfl (congrArg₂ (fun a b : EReal => a + b)
    (congrArg₂ (fun a b : EReal => a + b) (congrArg₂ (fun a b : EReal => a + b) (t 0) (t 1)) (congrArg₂ (fun a b : EReal => a + b) (t 2) (t 3)))
    (congrArg₂ (fun a b : EReal => a + b) (congrArg₂ (fun a b : EReal => a + b) (t 4) (t 5)) (congrArg₂ (fun a b : EReal => a + b) (t 6) (t 7))))

/-- A trip of the second loop stores eight tiles of exponentials next to those that are stored. -/
theorem tripExp_stored (hM : ∀ y, k0_pay22 (F := Ideal) v2 v3 v5 v7 y = M (y 0)) (x : Vec Ideal S32x151936 .bf16) (k : Fin k0_t2_loop.trips) (acc : FVec Ideal S32x128 .f32)
    (L : List (View.Piece (Elt Ideal) S32x151936 .f32)) (hL : Stored (e := .f32) (expo x M) (1024 * k.val) L) :
    Stored (e := .f32) (expo x M) (1024 * (k.val + 1))
      (tripL_k0_t2 (F := Ideal) 𝒱 c bd i arg1 harg1 arg2 harg2 arg3 harg3 arg4 harg4 arg5 harg5 v2 v3 v5 v7 (harg1.unread x) k acc ++ L) := by
  unfold tripL_k0_t2 trip_k0_t2
  dsimp only
  have t (r : Fin 8) (y : S32x128.Idx) := congrArg₂ term
    ((congrFun (shapeCast_self _ shapeCasts_S32x128_S32x128) y).trans (read_tile arg1 harg1 x _ _ (k0_off2_eq k r) (k0_off2_inb k r) y)) (hM y)
  have u (r : Fin 8) (y : S32x128.Idx) := (congrFun (shapeCast_self (fun z : S32x128.Idx => term
    (shapeCast S32x128 (View.readAt (Elt Ideal) arg1.view (Rect.unit (s := S32x151936) (k0_off2 k (BitVec.ofNat 32 (128 * r.val))) ![32, 128] (k0_off2_inb k r)).toLoadRect
      (harg1.unread x)) shapeCasts_S32x128_S32x128 z) (k0_pay22 (F := Ideal) v2 v3 v5 v7 z)) shapeCasts_S32x128_S32x128) y).trans (t r y)
  have step (r : Fin 8) (L' : List (View.Piece (Elt Ideal) S32x151936 .f32)) (w : S32x128.Idx → EReal)
      (hw : ∀ y, w y = expo x M (y 0) (1024 * k.val + 128 * r.val + (y 1).val))
      (hL' : Stored (e := .f32) (expo x M) (1024 * k.val + 128 * r.val) L') :
      Stored (e := .f32) (expo x M) (1024 * k.val + 128 * (r.val + 1))
        (⟨Rect.unit (s := S32x151936) (k0_off2 k (BitVec.ofNat 32 (128 * r.val))) ![32, 128] (k0_off2_inb k r), w⟩ :: L') :=
    hL'.cons _ _ (k0_off2_eq k r) (k0_off2_inb k r) w hw
  rw [show 1024 * (k.val + 1) = 1024 * k.val + 128 * ((7 : Fin 8).val + 1) from by show 1024 * (k.val + 1) = 1024 * k.val + 128 * (7 + 1); omega]
  refine step 7 _ _ (u 7) ?_
  refine step 6 _ _ (u 6) ?_
  refine step 5 _ _ (u 5) ?_
  refine step 4 _ _ (u 4) ?_
  refine step 3 _ _ (u 3) ?_
  refine step 2 _ _ (u 2) ?_
  refine step 1 _ _ (u 1) ?_
  exact step 0 _ _ (u 0) hL

/-- Before trip `k` the second loop carries the sum of the first `8 k` tiles of exponentials, lane by lane, and those tiles
    are stored in the scratch buffer. -/
theorem loopExp (hM : ∀ y, k0_pay22 (F := Ideal) v2 v3 v5 v7 y = M (y 0)) (x : Vec Ideal S32x151936 .bf16) (k : ℕ) (hk : k ≤ 148) :
    (∀ y : S32x128.Idx, (st_k0_t2 (F := Ideal) 𝒱 c bd i arg1 harg1 arg2 harg2 arg3 harg3 arg4 harg4 arg5 harg5 v2 v3 v5 v7 (harg1.unread x) (k0_pay23 (F := Ideal)) k).1 y
      = tileSum x M (y 0) (y 1).val (8 * k))
    ∧ Stored (e := .f32) (expo x M) (1024 * k)
      (st_k0_t2 (F := Ideal) 𝒱 c bd i arg1 harg1 arg2 harg2 arg3 harg3 arg4 harg4 arg5 harg5 v2 v3 v5 v7 (harg1.unread x) (k0_pay23 (F := Ideal)) k).2 := by
  induction k with
  | zero =>
    refine ⟨fun y => ?_, Stored.nil _⟩
    show Ideal.ofBits .f32 0x00000000#32 = (0 : EReal)
    simp [Ideal.ofBits, Ideal.ieee]
  | succ k ih =>
    have hlt : k < k0_t2_loop.trips := by
      have h : k0_t2_loop.trips = 148 := by decide +kernel
      omega
    rw [show k + 1 = (⟨k, hlt⟩ : Fin k0_t2_loop.trips).val + 1 from rfl, st_k0_t2_succ]
    refine ⟨fun y => ?_, tripExp_stored 𝒱 c bd i arg1 harg1 arg2 harg2 arg3 harg3 arg4 harg4 arg5 harg5 v2 v3 v5 v7 M hM x ⟨k, hlt⟩ _ _ (ih (by omega)).2⟩
    refine (tripExp 𝒱 c bd i arg1 harg1 arg2 harg2 arg3 harg3 arg4 harg4 arg5 harg5 v2 v3 v5 v7 M hM x ⟨k, hlt⟩ _ y).trans ?_
    rw [(ih (by omega)).1 y]
    show _ = tileSum x M (y 0) (y 1).val (8 * k + 1 + 1 + 1 + 1 + 1 + 1 + 1 + 1)
    simp only [tileSum_succ]
    simp only [show ∀ l, 1024 * k + 0 + l = 128 * (8 * k) + l from fun l => by omega,
      show ∀ l, 1024 * k + 128 + l = 128 * (8 * k + 1) + l from fun l => by omega,
      show ∀ l, 1024 * k + 256 + l = 128 * (8 * k + 1 + 1) + l from fun l => by omega,
      show ∀ l, 1024 * k + 384 + l = 128 * (8 * k + 1 + 1 + 1) + l from fun l => by omega,
      show ∀ l, 1024 * k + 512 + l = 128 * (8 * k + 1 + 1 + 1 + 1) + l from fun l => by omega,
      show ∀ l, 1024 * k + 640 + l = 128 * (8 * k + 1 + 1 + 1 + 1 + 1) + l from fun l => by omega,
      show ∀ l, 1024 * k + 768 + l = 128 * (8 * k + 1 + 1 + 1 + 1 + 1 + 1) + l from fun l => by omega,
      show ∀ l, 1024 * k + 896 + l = 128 * (8 * k + 1 + 1 + 1 + 1 + 1 + 1 + 1) + l from fun l => by omega]
    simp only [add_assoc, Nat.reduceAdd]

end Cert.KernelIdeal

end
-- ==== Proof.RowReindex.lean ====
/- A row walked over by tiles of 128 lanes: the sum and the maximum over lanes of what each lane collects are the sum
   and the maximum over the row's columns. -/
module

public import proofs.«01_k».proof.Proof.LoopMax
public import proofs.«01_k».proof.Proof.LoopExp

@[expose] public section

set_option maxRecDepth 16384

noncomputable section

namespace Cert.KernelIdeal

open Gen
open Idealize.ShloMosaic Idealize.ShloMosaic.TcCoe

/-- A sum over `a * b` numbers, collected by their remainders modulo `b`. -/
theorem sum_range_tiles (f : ℕ → EReal) (a b : ℕ) :
    ∑ n ∈ Finset.range (b * a), f n = ∑ l ∈ Finset.range b, ∑ j ∈ Finset.range a, f (b * j + l) := by
  induction a with
  | zero => simp
  | succ a ih =>
    rw [Nat.mul_succ, Finset.sum_range_add, ih, ← Finset.sum_add_distrib]
    exact Finset.sum_congr rfl fun l _ => (Finset.sum_range_succ _ _).symm

/-- The maximum of a row. -/
def rowMax (x : S32x151936.Idx → EReal) (r : Fin 32) : EReal := Finset.univ.sup fun n : Fin 151936 => x (ix2 r n)

/-- The sum of a row's exponentials. -/
def rowSum (x : S32x151936.Idx → EReal) (r : Fin 32) : EReal := ∑ n : Fin 151936, term (x (ix2 r n)) (rowMax x r)

/-- Three tiles more in a lane's maximum. -/
theorem tileMax_three (x : S32x151936.Idx → EReal) (r : Fin 32) (l n : ℕ) :
    max (tileMax x r l n) (max (max (col x r (128 * n + l)) (col x r (128 * (n + 1) + l))) (col x r (128 * (n + 2) + l)))
      = tileMax x r l (n + 3) := by
  rw [tileMax_succ, tileMax_succ, tileMax_succ, max_assoc, max_assoc, max_assoc]

/-- Three tiles more in a lane's sum. -/
theorem tileSum_three (x : S32x151936.Idx → EReal) (M : Fin 32 → EReal) (r : Fin 32) (l n : ℕ) :
    tileSum x M r l n + ((expo x M r (128 * n + l) + expo x M r (128 * (n + 1) + l)) + expo x M r (128 * (n + 2) + l))
      = tileSum x M r l (n + 3) := by
  rw [tileSum_succ, tileSum_succ, tileSum_succ, add_assoc, add_assoc, add_assoc]

/-- The maximum over the lanes is the row's. -/
theorem sup_lanes (x : S32x151936.Idx → EReal) (r : Fin 32) :
    (Finset.univ.sup fun l : Fin 128 => tileMax x r l.val 1187) = rowMax x r := by
  refine le_antisymm (Finset.sup_le fun l _ => Finset.sup_le fun j hj => ?_) (Finset.sup_le fun n _ => ?_)
  · have h : 128 * j + l.val < 151936 := by
      have := Finset.mem_range.1 hj
      have := l.isLt
      omega
    rw [col_of_lt x r _ h]
    exact Finset.le_sup (f := fun n : Fin 151936 => x (ix2 r n)) (Finset.mem_univ (⟨_, h⟩ : Fin 151936))
  · have h1 : n.val / 128 < 1187 := by have := n.isLt; omega
    have h2 : 128 * (n.val / 128) + n.val % 128 = n.val := Nat.div_add_mod _ _
    have h3 : x (ix2 r n) = col x r (128 * (n.val / 128) + n.val % 128) := by
      rw [h2, col_of_lt x r _ n.isLt]
    rw [h3]
    refine le_trans ?_ (Finset.le_sup (f := fun l : Fin 128 => tileMax x r l.val 1187) (Finset.mem_univ (⟨n.val % 128, Nat.mod_lt _ (by decide)⟩ : Fin 128)))
    exact Finset.le_sup (f := fun j => col x r (128 * j + n.val % 128)) (Finset.mem_range.2 h1)

/-- The sum over the lanes is the row's. -/
theorem sum_lanes (x : S32x151936.Idx → EReal) (r : Fin 32) :
    (∑ l : Fin 128, tileSum x (rowMax x) r l.val 1187) = rowSum x r := by
  unfold rowSum
  have h : ∀ n : Fin 151936, term (x (ix2 r n)) (rowMax x r) = expo x (rowMax x) r n.val := fun n => by
    unfold expo
    rw [col_of_lt x r _ n.isLt]
  rw [Finset.sum_congr rfl fun n _ => h n, Fin.sum_univ_eq_sum_range (fun n => expo x (rowMax x) r n) 151936,
    Fin.sum_univ_eq_sum_range (fun l => tileSum x (rowMax x) r l 1187) 128]
  exact (sum_range_tiles _ 1187 128).symm

end Cert.KernelIdeal

end
-- ==== Proof.LoopCodes.lean ====
/- The third loop: the codes, computed from the exponentials in the scratch buffer and stored tile by tile. -/
module

public import proofs.«01_k».proof.Proof.Pieces

@[expose] public section

set_option maxRecDepth 16384
set_option backward.isDefEq.respectTransparency false

noncomputable section

namespace Cert.KernelIdeal

open Gen
open Idealize.ShloMosaic Idealize.ShloMosaic.TcCoe Idealize.ShloMosaic.Tactic

/-- The code of the exponential `e` under the factor `w`: the product, held between the two ends of the fp8 range. -/
def code (e w : EReal) : EReal := min (Ideal.ofBits .f32 0x43E00000#32) (max (Ideal.ofBits .f32 0xC3E00000#32) (e * w))

variable (𝒱 : Variants) (c : Dev nD) (bd : Option 𝒱.V) (i : grid0.Coords)
  (arg1 : Memref sig .tc .vmem S32x151936 .bf16) (harg1 : arg1.IsWhole) (arg2 : Memref sig .tc .vmem S32x128 .f32) (harg2 : arg2.IsWhole)
  (arg3 : Memref sig .tc .vmem S32x151936 .fp8e4m3) (harg3 : arg3.IsWhole) (arg4 : Memref sig .tc .vmem S32x128 .f32) (harg4 : arg4.IsWhole)
  (arg5 : Memref sig .tc .vmem S32x151936 .f32) (harg5 : arg5.IsWhole)
  (v54 : FVec Ideal S32x1 .f32) (v74 : IVec S32x1 32) (W : Fin 32 → EReal) (g : Fin 32 → ℕ → EReal)
  (X : BufTy.Contents (Elt Ideal) arg5.view.ty)

/-- A trip of the third loop stores the codes of eight tiles next to those that are stored. -/
theorem tripCodes (hW : ∀ y, k0_pay42 (F := Ideal) v54 v74 y = W (y 0))
    (hX : ∀ (off : Fin 2 → ℕ) (o : ℕ) (ho : off = ![0, o]) (inb : ∀ a, off a + (![32, 128] : Fin 2 → ℕ) a ≤ S32x151936.size a) (y : S32x128.Idx),
      View.readAt (Elt Ideal) arg5.view (Rect.unit (s := S32x151936) off ![32, 128] inb).toLoadRect X y = g (y 0) (o + (y 1).val))
    (k : Fin k0_t3_loop.trips)
    (L : List (View.Piece (Elt Ideal) S32x151936 .fp8e4m3)) (hL : Stored (e := .fp8e4m3) (fun r n => code (g r n) (W r)) (1024 * k.val) L) :
    Stored (e := .fp8e4m3) (fun r n => code (g r n) (W r)) (1024 * (k.val + 1))
      (tripL_k0_t3 (F := Ideal) 𝒱 c bd i arg1 harg1 arg2 harg2 arg3 harg3 arg4 harg4 arg5 harg5 v54 v74 X k ++ L) := by
  unfold tripL_k0_t3 trip_k0_t3
  dsimp only
  have u (r : Fin 8) (y : S32x128.Idx) := congrArg₂ code (hX _ _ (k0_off3_eq k r) (k0_off3_inb k r) y) (hW y)
  have step (r : Fin 8) (L' : List (View.Piece (Elt Ideal) S32x151936 .fp8e4m3)) (w : S32x128.Idx → EReal)
      (hw : ∀ y, w y = code (g (y 0) (1024 * k.val + 128 * r.val + (y 1).val)) (W (y 0)))
      (hL' : Stored (e := .fp8e4m3) (fun r n => code (g r n) (W r)) (1024 * k.val + 128 * r.val) L') :
      Stored (e := .fp8e4m3) (fun r n => code (g r n) (W r)) (1024 * k.val + 128 * (r.val + 1))
        (⟨Rect.unit (s := S32x151936) (k0_off3 k (BitVec.ofNat 32 (128 * r.val))) ![32, 128] (k0_off3_inb k r), w⟩ :: L') :=
    hL'.cons _ _ (k0_off3_eq k r) (k0_off3_inb k r) w hw
  rw [show 1024 * (k.val + 1) = 1024 * k.val + 128 * ((7 : Fin 8).val + 1) from by show 1024 * (k.val + 1) = 1024 * k.val + 128 * (7 + 1); omega]
  refine step 7 _ _ (u 7) ?_
  refine step 6 _ _ (u 6) ?_
  refine step 5 _ _ (u 5) ?_
  refine step 4 _ _ (u 4) ?_
  refine step 3 _ _ (u 3) ?_
  refine step 2 _ _ (u 2) ?_
  refine step 1 _ _ (u 1) ?_
  exact step 0 _ _ (u 0) hL

/-- Before trip `k` of the third loop the codes of the first `8 k` tiles are stored. -/
theorem loopCodes (hW : ∀ y, k0_pay42 (F := Ideal) v54 v74 y = W (y 0))
    (hX : ∀ (off : Fin 2 → ℕ) (o : ℕ) (ho : off = ![0, o]) (inb : ∀ a, off a + (![32, 128] : Fin 2 → ℕ) a ≤ S32x151936.size a) (y : S32x128.Idx),
      View.readAt (Elt Ideal) arg5.view (Rect.unit (s := S32x151936) off ![32, 128] inb).toLoadRect X y = g (y 0) (o + (y 1).val))
    (k : ℕ) (hk : k ≤ 148) :
    Stored (e := .fp8e4m3) (fun r n => code (g r n) (W r)) (1024 * k)
      (pb_k0_t3 (F := Ideal) 𝒱 c bd i arg1 harg1 arg2 harg2 arg3 harg3 arg4 harg4 arg5 harg5 v54 v74 X k) := by
  induction k with
  | zero => exact Stored.nil _
  | succ k ih =>
    have hlt : k < k0_t3_loop.trips := by
      have h : k0_t3_loop.trips = 148 := by decide +kernel
      omega
    rw [show k + 1 = (⟨k, hlt⟩ : Fin k0_t3_loop.trips).val + 1 from rfl, pb_k0_t3_succ]
    exact tripCodes 𝒱 c bd i arg1 harg1 arg2 harg2 arg3 harg3 arg4 harg4 arg5 harg5 v54 v74 W g X hW hX ⟨k, hlt⟩ _ (ih (by omega))

end Cert.KernelIdeal

end
-- ==== Proof.Payloads.lean ====
/- The kernel's row computations read at one entry: the row maximum, the row sum, the logarithm of the sum, the counted
   exponent, the scale and the factor of the codes. -/
module

public import proofs.«01_k».proof.Proof.LoopExp

@[expose] public section

set_option maxRecDepth 16384
set_option backward.isDefEq.respectTransparency false

noncomputable section

namespace Cert.KernelIdeal

open Gen
open Idealize.ShloMosaic Idealize.ShloMosaic.TcCoe Idealize.ShloMosaic.Tactic

/-- The row maximum: over the 128 lanes, the maximum of what the first loop carries and the three tiles left. -/
theorem pay22_apply (v2 : FVec Ideal S32x128 .bf16) (v3 v5 v7 : Vec Ideal S32x128 .bf16) (y : S32x128.Idx) :
    k0_pay22 (F := Ideal) v2 v3 v5 v7 y
      = Finset.univ.sup fun l : Fin 128 => max (v2 (ix2 (y 0) l)) (max (max (v3 (ix2 (y 0) l)) (v5 (ix2 (y 0) l))) (v7 (ix2 (y 0) l))) := by
  unfold k0_pay22
  pointwise
  rw [show Ideal.ofBits FTy.f32 0xFF800000#32 = (⊥ : EReal) from by simp [Ideal.ofBits, Ideal.ieee]]
  rfl

/-- The row sum. -/
theorem pay37_apply (v16 v19 v26 v33 : FVec Ideal S32x128 .f32) (v40 : Vec Ideal S32x128 .bf16) (r : Fin 32) (z : Fin 1) :
    k0_pay37 (F := Ideal) v16 v19 v26 v33 v40 (ix2 r z)
      = ∑ l : Fin 128, (v19 (ix2 r l) + ((v26 (ix2 r l) + Ideal.exp2 (v33 (ix2 r l) * kap)) + term (v40 (ix2 r l)) (v16 (ix2 r l)))) := by
  unfold k0_pay37 k0_pay33 k0_pay35
  pointwise
  rfl

/-- The logarithm of the row sum. -/
theorem pay40_apply (v54 : FVec Ideal S32x1 .f32) (y : S32x128.Idx) :
    k0_pay40 (F := Ideal) v54 y = Ideal.log (v54 (ix2 (y 0) 0)) := by
  unfold k0_pay40
  pointwise

/-- The scale, from the counted exponent. -/
theorem pay41_apply (v74 : IVec S32x1 32) (y : S32x128.Idx) :
    k0_pay41 (F := Ideal) v74 y = Ideal.ofBits .f32 ((v74 (ix2 (y 0) 0) - 126#32 + 127#32) <<< 23) := by
  unfold k0_pay41 k0_pay39
  pointwise
  rfl

/-- The factor of the codes, from the counted exponent and the row sum. -/
theorem pay42_apply (v54 : FVec Ideal S32x1 .f32) (v74 : IVec S32x1 32) (y : S32x128.Idx) :
    k0_pay42 (F := Ideal) v54 v74 y
      = Ideal.div (Ideal.ofBits .f32 ((127#32 - (v74 (ix2 (y 0) 0) - 126#32)) <<< 23)) (v54 (ix2 (y 0) 0)) := by
  unfold k0_pay42 k0_pay39
  pointwise
  rfl

/-- The word that the kernel counts for a quotient `q`: how many of the powers of two, whose bit patterns are the numbers
    from 0 to 255 in the exponent field, are at most `q`; less one, in eight bits. -/
def countWord (q : EReal) : BitVec 32 :=
  (Finset.univ.fold IntOp.addi 0#32
    (fun k : Fin 256 => if Ideal.ofBits .f32 (BitVec.ofNat 32 k.val <<< 23) ≤ q then 1#32 else 0#32) - 1#32) &&& 255#32

/-- The counted word, by the number of the powers of two. -/
theorem countWord_eq (q : EReal) (n : ℕ)
    (hn : (Finset.univ.filter fun k : Fin 256 => Ideal.ofBits .f32 (BitVec.ofNat 32 k.val <<< 23) ≤ q).card = n) :
    countWord q = (BitVec.ofNat 32 n - 1#32) &&& 255#32 := by
  have h : ∀ s : Finset (Fin 256), s.fold IntOp.addi 0#32
      (fun k : Fin 256 => if Ideal.ofBits .f32 (BitVec.ofNat 32 k.val <<< 23) ≤ q then 1#32 else 0#32)
      = BitVec.ofNat 32 (s.filter fun k : Fin 256 => Ideal.ofBits .f32 (BitVec.ofNat 32 k.val <<< 23) ≤ q).card := by
    intro s
    induction s using Finset.induction_on with
    | empty => rfl
    | insert a s ha ih =>
      rw [Finset.fold_insert ha, ih, Finset.filter_insert]
      by_cases hq : Ideal.ofBits .f32 (BitVec.ofNat 32 a.val <<< 23) ≤ q
      · rw [if_pos hq, if_pos hq, Finset.card_insert_of_notMem (fun hm => ha (Finset.mem_filter.1 hm).1), Nat.add_comm, BitVec.ofNat_add]
        rfl
      · rw [if_neg hq, if_neg hq]
        exact BitVec.zero_add _
  unfold countWord
  rw [h, hn]

/-- The counted exponent. -/
theorem pay38_apply (v16 v19 v26 v33 : FVec Ideal S32x128 .f32) (v40 : Vec Ideal S32x128 .bf16) (r : Fin 32) (z : Fin 1) :
    k0_pay38 (F := Ideal) v16 v19 v26 v33 v40 (ix2 r z)
      = countWord (Ideal.div 1 (k0_pay37 (F := Ideal) v16 v19 v26 v33 v40 (ix2 r 0)) * Ideal.ofBits .f32 0x3B124925#32) := by
  unfold k0_pay38
  generalize k0_pay37 (F := Ideal) v16 v19 v26 v33 v40 = v54
  pointwise
  rfl

end Cert.KernelIdeal

end
-- ==== Proof.BlockValue.lean ====
/- The row maximum and the row sum that the kernel's body works with, as functions of the input block. -/
module

public import proofs.«01_k».proof.Proof.RowReindex
public import proofs.«01_k».proof.Proof.LoopCodes
public import proofs.«01_k».proof.Proof.Payloads

@[expose] public section

set_option maxRecDepth 16384
set_option backward.isDefEq.respectTransparency false

noncomputable section

namespace Cert.KernelIdeal

open Gen
open Idealize.ShloMosaic Idealize.ShloMosaic.TcCoe Idealize.ShloMosaic.Tactic

/-- The exponent that the kernel counts for a row. -/
def rowWord (x : S32x151936.Idx → EReal) (r : Fin 32) : BitVec 32 :=
  countWord (Ideal.div 1 (rowSum x r) * Ideal.ofBits .f32 0x3B124925#32)

/-- A row's logarithm of the sum. -/
def rowLse (x : S32x151936.Idx → EReal) (r : Fin 32) : EReal := Ideal.log (rowSum x r)

/-- A row's scale. -/
def rowScale (x : S32x151936.Idx → EReal) (r : Fin 32) : EReal := Ideal.ofBits .f32 ((rowWord x r - 126#32 + 127#32) <<< 23)

/-- The factor of a row's codes. -/
def rowFactor (x : S32x151936.Idx → EReal) (r : Fin 32) : EReal :=
  Ideal.div (Ideal.ofBits .f32 ((127#32 - (rowWord x r - 126#32)) <<< 23)) (rowSum x r)

/-- The code of a row's entry. -/
def rowCode (x : S32x151936.Idx → EReal) (r : Fin 32) (n : ℕ) : EReal := code (expo x (rowMax x) r n) (rowFactor x r)

/-- A store over the whole buffer leaves its value. -/
theorem read_whole (arg : Memref sig .tc .vmem S32x128 .f32) (f : BufTy.Contents (Elt Ideal) arg.view.ty)
    (inb : ∀ a, (![0, 0] : Fin 2 → ℕ) a + S32x128.size a ≤ S32x128.size a) (w : S32x128.Idx → EReal) (y : S32x128.Idx) :
    arg.view.read (Elt Ideal) (arg.view.writes (Elt Ideal) f [⟨Rect.unit (s := S32x128) ![0, 0] S32x128.size inb, w⟩]) y = w y := by
  refine View.read_writes_apply_of_pieces (Val := Elt Ideal) arg.view f w _ ?_ y ⟨_, List.mem_cons_self, ?_⟩
  · intro p hp z
    obtain rfl := List.mem_singleton.1 hp
    refine congrArg w (funext fun a => Fin.ext ?_)
    fin_cases a
    · show (z 0).val = 0 + 1 * (z 0).val
      omega
    · show (z 1).val = 0 + 1 * (z 1).val
      omega
  · rw [Rect.mem_set_unit]
    intro a
    fin_cases a
    · exact ⟨Nat.zero_le _, by show (y 0).val < 0 + 32; have : (y 0).val < 32 := (y 0).isLt; omega⟩
    · exact ⟨Nat.zero_le _, by show (y 1).val < 0 + 128; have : (y 1).val < 128 := (y 1).isLt; omega⟩

variable (c : Dev nD) (i : grid0.Coords)
  (arg1 : Memref sig .tc .vmem S32x151936 .bf16) (harg1 : arg1.IsWhole) (arg2 : Memref sig .tc .vmem S32x128 .f32) (harg2 : arg2.IsWhole)
  (arg3 : Memref sig .tc .vmem S32x151936 .fp8e4m3) (harg3 : arg3.IsWhole) (arg4 : Memref sig .tc .vmem S32x128 .f32) (harg4 : arg4.IsWhole)
  (arg5 : Memref sig .tc .vmem S32x151936 .f32) (harg5 : arg5.IsWhole) (x : Vec Ideal S32x151936 .bf16)

/-- What the first loop carries out. -/
abbrev maxCarry : FVec Ideal S32x128 .bf16 :=
  st_k0_t1 (F := Ideal) Variants.none c none i arg1 harg1 arg2 harg2 arg3 harg3 arg4 harg4 arg5 harg5 (harg1.unread x) k0_pay21 k0_t1_loop.trips

/-- The three tiles after the loops' last trip. -/
abbrev tail0 : Vec Ideal S32x128 .bf16 :=
  View.readAt (Elt Ideal) arg1.view (Rect.unit (s := S32x151936) ![0, 151552] S32x128.size inb_S32x151936_S32x128_0_151552).toLoadRect (harg1.unread x)
@[inherit_doc tail0] abbrev tail1 : Vec Ideal S32x128 .bf16 :=
  View.readAt (Elt Ideal) arg1.view (Rect.unit (s := S32x151936) ![0, 151680] S32x128.size inb_S32x151936_S32x128_0_151680).toLoadRect (harg1.unread x)
@[inherit_doc tail0] abbrev tail2 : Vec Ideal S32x128 .bf16 :=
  View.readAt (Elt Ideal) arg1.view (Rect.unit (s := S32x151936) ![0, 151808] S32x128.size inb_S32x151936_S32x128_0_151808).toLoadRect (harg1.unread x)

/-- The first of the three tiles at an entry; the other two likewise. -/
theorem tail0_apply (y : S32x128.Idx) : tail0 arg1 harg1 x y = col x (y 0) (128 * 1184 + (y 1).val) :=
  read_tile arg1 harg1 x _ 151552 rfl inb_S32x151936_S32x128_0_151552 y
@[inherit_doc tail0_apply] theorem tail1_apply (y : S32x128.Idx) : tail1 arg1 harg1 x y = col x (y 0) (128 * 1185 + (y 1).val) :=
  read_tile arg1 harg1 x _ 151680 rfl inb_S32x151936_S32x128_0_151680 y
@[inherit_doc tail0_apply] theorem tail2_apply (y : S32x128.Idx) : tail2 arg1 harg1 x y = col x (y 0) (128 * 1186 + (y 1).val) :=
  read_tile arg1 harg1 x _ 151808 rfl inb_S32x151936_S32x128_0_151808 y

/-- The row maximum that the kernel works with. -/
abbrev maxVec : FVec Ideal S32x128 .f32 :=
  k0_pay22 (F := Ideal) (maxCarry c i arg1 harg1 arg2 harg2 arg3 harg3 arg4 harg4 arg5 harg5 x) (tail0 arg1 harg1 x) (tail1 arg1 harg1 x) (tail2 arg1 harg1 x)

/-- It is the maximum of the row. -/
theorem maxVec_apply (y : S32x128.Idx) :
    maxVec c i arg1 harg1 arg2 harg2 arg3 harg3 arg4 harg4 arg5 harg5 x y = rowMax x (y 0) := by
  refine (pay22_apply _ _ _ _ y).trans (Eq.trans ?_ (sup_lanes x (y 0)))
  congr 1
  funext l
  have h148 : k0_t1_loop.trips = 148 := by decide +kernel
  have hc : maxCarry c i arg1 harg1 arg2 harg2 arg3 harg3 arg4 harg4 arg5 harg5 x (ix2 (y 0) l) = tileMax x (y 0) l.val 1184 := by
    unfold maxCarry
    rw [h148]
    exact loopMax Variants.none c none i arg1 harg1 arg2 harg2 arg3 harg3 arg4 harg4 arg5 harg5 x 148 le_rfl (ix2 (y 0) l)
  rw [hc, tail0_apply, tail1_apply, tail2_apply]
  exact tileMax_three x (y 0) l.val 1184

/-- What the second loop leaves: the sum carried, and the pieces stored in the scratch buffer. -/
abbrev expCarry : FVec Ideal S32x128 .f32 × List (View.Piece (Elt Ideal) S32x151936 .f32) :=
  st_k0_t2 (F := Ideal) Variants.none c none i arg1 harg1 arg2 harg2 arg3 harg3 arg4 harg4 arg5 harg5
    (maxCarry c i arg1 harg1 arg2 harg2 arg3 harg3 arg4 harg4 arg5 harg5 x) (tail0 arg1 harg1 x) (tail1 arg1 harg1 x) (tail2 arg1 harg1 x)
    (harg1.unread x) k0_pay23 k0_t2_loop.trips

/-- The sum is over the first 1184 tiles, and the pieces hold those tiles' exponentials. -/
theorem expCarry_spec :
    (∀ y : S32x128.Idx, (expCarry c i arg1 harg1 arg2 harg2 arg3 harg3 arg4 harg4 arg5 harg5 x).1 y = tileSum x (rowMax x) (y 0) (y 1).val 1184)
      ∧ Stored (e := .f32) (expo x (rowMax x)) 151552 (expCarry c i arg1 harg1 arg2 harg2 arg3 harg3 arg4 harg4 arg5 harg5 x).2 := by
  have h148 : k0_t2_loop.trips = 148 := by decide +kernel
  unfold expCarry
  rw [h148]
  exact loopExp Variants.none c none i arg1 harg1 arg2 harg2 arg3 harg3 arg4 harg4 arg5 harg5 _ _ _ _ (rowMax x)
    (fun y => maxVec_apply c i arg1 harg1 arg2 harg2 arg3 harg3 arg4 harg4 arg5 harg5 x y) x 148 le_rfl

/-- The row sum that the kernel works with. -/
abbrev sumVec : FVec Ideal S32x1 .f32 :=
  k0_pay37 (F := Ideal) (maxVec c i arg1 harg1 arg2 harg2 arg3 harg3 arg4 harg4 arg5 harg5 x)
    (expCarry c i arg1 harg1 arg2 harg2 arg3 harg3 arg4 harg4 arg5 harg5 x).1
    (k0_pay30 (maxCarry c i arg1 harg1 arg2 harg2 arg3 harg3 arg4 harg4 arg5 harg5 x) (tail0 arg1 harg1 x) (tail1 arg1 harg1 x) (tail2 arg1 harg1 x) (tail0 arg1 harg1 x))
    (k0_pay32 (maxCarry c i arg1 harg1 arg2 harg2 arg3 harg3 arg4 harg4 arg5 harg5 x) (tail0 arg1 harg1 x) (tail1 arg1 harg1 x) (tail2 arg1 harg1 x) (tail1 arg1 harg1 x))
    (tail2 arg1 harg1 x)

/-- An exponential of the first tile after the loop, at an entry. -/
theorem pay30_apply (v2 : FVec Ideal S32x128 .bf16) (v3 v5 v7 v20 : Vec Ideal S32x128 .bf16) (y : S32x128.Idx) :
    k0_pay30 (F := Ideal) v2 v3 v5 v7 v20 y = term (v20 y) (k0_pay22 (F := Ideal) v2 v3 v5 v7 y) := by
  unfold k0_pay30
  rw [shapeCast_self]
  rfl

/-- The exponent of the second tile after the loop, at an entry. -/
theorem pay32_apply (v2 : FVec Ideal S32x128 .bf16) (v3 v5 v7 v30 : Vec Ideal S32x128 .bf16) (y : S32x128.Idx) :
    k0_pay32 (F := Ideal) v2 v3 v5 v7 v30 y = v30 y - k0_pay22 (F := Ideal) v2 v3 v5 v7 y := by
  unfold k0_pay32
  rw [shapeCast_self]
  rfl

/-- An exponential of the third tile after the loop, at an entry. -/
theorem pay35_apply (v16 : FVec Ideal S32x128 .f32) (v40 : Vec Ideal S32x128 .bf16) (y : S32x128.Idx) :
    k0_pay35 (F := Ideal) v16 v40 y = term (v40 y) (v16 y) := by
  unfold k0_pay35
  rw [shapeCast_self]
  rfl

/-- It is the sum of the row's exponentials. -/
theorem sumVec_apply (r : Fin 32) (z : Fin 1) :
    sumVec c i arg1 harg1 arg2 harg2 arg3 harg3 arg4 harg4 arg5 harg5 x (ix2 r z) = rowSum x r := by
  refine (pay37_apply _ _ _ _ _ r z).trans (Eq.trans ?_ (sum_lanes x r))
  refine Finset.sum_congr rfl fun l _ => ?_
  have m := maxVec_apply c i arg1 harg1 arg2 harg2 arg3 harg3 arg4 harg4 arg5 harg5 x (ix2 r l)
  have e0 : _ = tileSum x (rowMax x) r l.val 1184 := (expCarry_spec c i arg1 harg1 arg2 harg2 arg3 harg3 arg4 harg4 arg5 harg5 x).1 (ix2 r l)
  have e1 : _ = expo x (rowMax x) r (128 * 1184 + l.val) :=
    (pay30_apply _ _ _ _ _ (ix2 r l)).trans (congrArg₂ term (tail0_apply arg1 harg1 x (ix2 r l)) m)
  have e2 : _ = expo x (rowMax x) r (128 * 1185 + l.val) :=
    congrArg (fun a => Ideal.exp2 (a * kap))
      ((pay32_apply _ _ _ _ _ (ix2 r l)).trans (congrArg₂ (fun a b : EReal => a - b) (tail1_apply arg1 harg1 x (ix2 r l)) m))
  have e3 : _ = expo x (rowMax x) r (128 * 1186 + l.val) := congrArg₂ term (tail2_apply arg1 harg1 x (ix2 r l)) m
  exact (congrArg₂ (fun a b : EReal => a + b) e0
    (congrArg₂ (fun a b : EReal => a + b) (congrArg₂ (fun a b : EReal => a + b) e1 e2) e3)).trans (tileSum_three x (rowMax x) r l.val 1184)

end Cert.KernelIdeal

end
-- ==== Proof.BlockOut.lean ====
/- What the kernel's body leaves in its three output buffers, as functions of the input block. -/
module

public import proofs.«01_k».proof.Proof.BlockValue

@[expose] public section

set_option maxRecDepth 16384
set_option backward.isDefEq.respectTransparency false

noncomputable section

namespace Cert.KernelIdeal

open Gen
open Idealize.ShloMosaic Idealize.ShloMosaic.TcCoe Idealize.ShloMosaic.Tactic

variable (c : Dev nD) (i : grid0.Coords)
  (arg1 : Memref sig .tc .vmem S32x151936 .bf16) (harg1 : arg1.IsWhole) (arg2 : Memref sig .tc .vmem S32x128 .f32) (harg2 : arg2.IsWhole)
  (arg3 : Memref sig .tc .vmem S32x151936 .fp8e4m3) (harg3 : arg3.IsWhole) (arg4 : Memref sig .tc .vmem S32x128 .f32) (harg4 : arg4.IsWhole)
  (arg5 : Memref sig .tc .vmem S32x151936 .f32) (harg5 : arg5.IsWhole) (x : Vec Ideal S32x151936 .bf16)
  (fs0 : BufTy.Contents (Elt Ideal) arg5.view.ty)

/-- The counted exponent that the kernel works with. -/
abbrev wordVec : IVec S32x1 32 :=
  k0_pay38 (F := Ideal) (maxVec c i arg1 harg1 arg2 harg2 arg3 harg3 arg4 harg4 arg5 harg5 x)
    (expCarry c i arg1 harg1 arg2 harg2 arg3 harg3 arg4 harg4 arg5 harg5 x).1
    (k0_pay30 (maxCarry c i arg1 harg1 arg2 harg2 arg3 harg3 arg4 harg4 arg5 harg5 x) (tail0 arg1 harg1 x) (tail1 arg1 harg1 x) (tail2 arg1 harg1 x) (tail0 arg1 harg1 x))
    (k0_pay32 (maxCarry c i arg1 harg1 arg2 harg2 arg3 harg3 arg4 harg4 arg5 harg5 x) (tail0 arg1 harg1 x) (tail1 arg1 harg1 x) (tail2 arg1 harg1 x) (tail1 arg1 harg1 x))
    (tail2 arg1 harg1 x)

/-- It is the row's. -/
theorem wordVec_apply (r : Fin 32) (z : Fin 1) : wordVec c i arg1 harg1 arg2 harg2 arg3 harg3 arg4 harg4 arg5 harg5 x (ix2 r z) = rowWord x r :=
  (pay38_apply _ _ _ _ _ r z).trans
    (congrArg (fun s : EReal => countWord (Ideal.div 1 s * Ideal.ofBits .f32 0x3B124925#32)) (sumVec_apply c i arg1 harg1 arg2 harg2 arg3 harg3 arg4 harg4 arg5 harg5 x r 0))

/-- The factor of the codes that the kernel works with. -/
theorem factor_apply (y : S32x128.Idx) :
    k0_pay42 (F := Ideal) (sumVec c i arg1 harg1 arg2 harg2 arg3 harg3 arg4 harg4 arg5 harg5 x) (wordVec c i arg1 harg1 arg2 harg2 arg3 harg3 arg4 harg4 arg5 harg5 x) y = rowFactor x (y 0) :=
  (pay42_apply _ _ y).trans
    (congrArg₂ (fun (w : BitVec 32) (s : EReal) => Ideal.div (Ideal.ofBits .f32 ((127#32 - (w - 126#32)) <<< 23)) s)
      (wordVec_apply c i arg1 harg1 arg2 harg2 arg3 harg3 arg4 harg4 arg5 harg5 x (y 0) 0) (sumVec_apply c i arg1 harg1 arg2 harg2 arg3 harg3 arg4 harg4 arg5 harg5 x (y 0) 0))

/-- What the scratch buffer's pieces are after the row's last tile. -/
abbrev scratchPieces : List (View.Piece (Elt Ideal) S32x151936 .f32) :=
  ⟨Rect.unit (s := S32x151936) ![0, 151808] ![32, 128] inb_S32x151936_S32x128_0_151808, k0_pay36 (F := Ideal) (maxVec c i arg1 harg1 arg2 harg2 arg3 harg3 arg4 harg4 arg5 harg5 x) (tail2 arg1 harg1 x)⟩
    :: ⟨Rect.unit (s := S32x151936) ![0, 151680] ![32, 128] inb_S32x151936_S32x128_0_151680, k0_pay34 (F := Ideal)
      (k0_pay32 (maxCarry c i arg1 harg1 arg2 harg2 arg3 harg3 arg4 harg4 arg5 harg5 x) (tail0 arg1 harg1 x) (tail1 arg1 harg1 x) (tail2 arg1 harg1 x) (tail1 arg1 harg1 x))⟩
    :: ⟨Rect.unit (s := S32x151936) ![0, 151552] ![32, 128] inb_S32x151936_S32x128_0_151552,
      k0_pay31 (F := Ideal) (maxCarry c i arg1 harg1 arg2 harg2 arg3 harg3 arg4 harg4 arg5 harg5 x) (tail0 arg1 harg1 x) (tail1 arg1 harg1 x) (tail2 arg1 harg1 x) (tail0 arg1 harg1 x)⟩
    :: (expCarry c i arg1 harg1 arg2 harg2 arg3 harg3 arg4 harg4 arg5 harg5 x).2

/-- They hold the exponentials of the whole block. -/
theorem scratchPieces_stored : Stored (e := .f32) (expo x (rowMax x)) 151936 (scratchPieces c i arg1 harg1 arg2 harg2 arg3 harg3 arg4 harg4 arg5 harg5 x) := by
  have m (y : S32x128.Idx) := maxVec_apply c i arg1 harg1 arg2 harg2 arg3 harg3 arg4 harg4 arg5 harg5 x y
  have h0 := (expCarry_spec c i arg1 harg1 arg2 harg2 arg3 harg3 arg4 harg4 arg5 harg5 x).2
  have h1 := h0.cons 151552 _ rfl inb_S32x151936_S32x128_0_151552
    (k0_pay31 (F := Ideal) (maxCarry c i arg1 harg1 arg2 harg2 arg3 harg3 arg4 harg4 arg5 harg5 x) (tail0 arg1 harg1 x) (tail1 arg1 harg1 x) (tail2 arg1 harg1 x) (tail0 arg1 harg1 x)) (fun y =>
      (congrFun (shapeCast_self (k0_pay30 (F := Ideal) (maxCarry c i arg1 harg1 arg2 harg2 arg3 harg3 arg4 harg4 arg5 harg5 x) (tail0 arg1 harg1 x) (tail1 arg1 harg1 x) (tail2 arg1 harg1 x) (tail0 arg1 harg1 x))
        shapeCasts_S32x128_S32x128) y).trans ((pay30_apply _ _ _ _ _ y).trans (congrArg₂ term (tail0_apply arg1 harg1 x y) (m y))))
  have h2 := h1.cons 151680 _ rfl inb_S32x151936_S32x128_0_151680
    (k0_pay34 (F := Ideal) (k0_pay32 (maxCarry c i arg1 harg1 arg2 harg2 arg3 harg3 arg4 harg4 arg5 harg5 x) (tail0 arg1 harg1 x) (tail1 arg1 harg1 x) (tail2 arg1 harg1 x) (tail1 arg1 harg1 x))) (fun y =>
      (congrFun (shapeCast_self (k0_pay33 (F := Ideal) (k0_pay32 (maxCarry c i arg1 harg1 arg2 harg2 arg3 harg3 arg4 harg4 arg5 harg5 x) (tail0 arg1 harg1 x) (tail1 arg1 harg1 x) (tail2 arg1 harg1 x) (tail1 arg1 harg1 x)))
        shapeCasts_S32x128_S32x128) y).trans (congrArg (fun a => Ideal.exp2 (a * kap))
          ((pay32_apply _ _ _ _ _ y).trans (congrArg₂ (fun a b : EReal => a - b) (tail1_apply arg1 harg1 x y) (m y)))))
  exact h2.cons 151808 _ rfl inb_S32x151936_S32x128_0_151808
    (k0_pay36 (F := Ideal) (maxVec c i arg1 harg1 arg2 harg2 arg3 harg3 arg4 harg4 arg5 harg5 x) (tail2 arg1 harg1 x)) (fun y =>
      (congrFun (shapeCast_self (k0_pay35 (F := Ideal) (maxVec c i arg1 harg1 arg2 harg2 arg3 harg3 arg4 harg4 arg5 harg5 x) (tail2 arg1 harg1 x)) shapeCasts_S32x128_S32x128) y).trans
        ((pay35_apply _ _ y).trans (congrArg₂ term (tail2_apply arg1 harg1 x y) (m y))))

/-- The first output: the logarithm of the row sum, in every lane. -/
theorem lse_read (f : BufTy.Contents (Elt Ideal) arg2.view.ty) (y : S32x128.Idx) :
    arg2.view.read (Elt Ideal) (arg2.view.writes (Elt Ideal) f (kernelRun (F := Ideal) c i arg1 harg1 arg2 harg2 arg3 harg3 arg4 harg4 arg5 harg5 x fs0).1) y = rowLse x (y 0) :=
  (read_whole arg2 f inb_S32x128_S32x128_0_0 (k0_pay40 (F := Ideal) (sumVec c i arg1 harg1 arg2 harg2 arg3 harg3 arg4 harg4 arg5 harg5 x)) y).trans
    ((pay40_apply _ y).trans (congrArg Ideal.log (sumVec_apply c i arg1 harg1 arg2 harg2 arg3 harg3 arg4 harg4 arg5 harg5 x (y 0) 0)))

/-- The third output: the scale, in every lane. -/
theorem scale_read (f : BufTy.Contents (Elt Ideal) arg4.view.ty) (y : S32x128.Idx) :
    arg4.view.read (Elt Ideal) (arg4.view.writes (Elt Ideal) f (kernelRun (F := Ideal) c i arg1 harg1 arg2 harg2 arg3 harg3 arg4 harg4 arg5 harg5 x fs0).2.2.1) y = rowScale x (y 0) :=
  (read_whole arg4 f inb_S32x128_S32x128_0_0 (k0_pay41 (F := Ideal) (wordVec c i arg1 harg1 arg2 harg2 arg3 harg3 arg4 harg4 arg5 harg5 x)) y).trans
    ((pay41_apply _ y).trans (congrArg (fun w : BitVec 32 => Ideal.ofBits .f32 ((w - 126#32 + 127#32) <<< 23)) (wordVec_apply c i arg1 harg1 arg2 harg2 arg3 harg3 arg4 harg4 arg5 harg5 x (y 0) 0)))

/-- The second output's pieces hold the codes of the whole block. -/
theorem codes_stored : Stored (e := .fp8e4m3) (rowCode x) 151936 (kernelRun (F := Ideal) c i arg1 harg1 arg2 harg2 arg3 harg3 arg4 harg4 arg5 harg5 x fs0).2.1 := by
  have hs := scratchPieces_stored c i arg1 harg1 arg2 harg2 arg3 harg3 arg4 harg4 arg5 harg5 x
  have hW := factor_apply c i arg1 harg1 arg2 harg2 arg3 harg3 arg4 harg4 arg5 harg5 x
  have h148 : k0_t3_loop.trips = 148 := by decide +kernel
  have h0 : Stored (e := .fp8e4m3) (rowCode x) 151552 (pb_k0_t3 (F := Ideal) Variants.none c none i arg1 harg1 arg2 harg2 arg3 harg3 arg4 harg4 arg5 harg5
      (sumVec c i arg1 harg1 arg2 harg2 arg3 harg3 arg4 harg4 arg5 harg5 x) (wordVec c i arg1 harg1 arg2 harg2 arg3 harg3 arg4 harg4 arg5 harg5 x) (arg5.view.writes (Elt Ideal) fs0 (scratchPieces c i arg1 harg1 arg2 harg2 arg3 harg3 arg4 harg4 arg5 harg5 x)) k0_t3_loop.trips) := by
    rw [h148]
    exact loopCodes Variants.none c none i arg1 harg1 arg2 harg2 arg3 harg3 arg4 harg4 arg5 harg5 _ _ (rowFactor x) (expo x (rowMax x)) _ hW
      (fun off o ho inb y => hs.readAt arg5 fs0 off o ho inb y) 148 le_rfl
  have t (off : Fin 2 → ℕ) (o : ℕ) (ho : off = ![0, o]) (inb : ∀ a, off a + (![32, 128] : Fin 2 → ℕ) a ≤ S32x151936.size a) (y : S32x128.Idx) :=
    congrArg₂ code (hs.readAt arg5 arg5.view.junk off o ho inb y) (hW y)
  have h1 := h0.cons 151552 _ rfl inb_S32x151936_S32x128_0_151552
    (k0_pay45 (F := Ideal) (sumVec c i arg1 harg1 arg2 harg2 arg3 harg3 arg4 harg4 arg5 harg5 x) (wordVec c i arg1 harg1 arg2 harg2 arg3 harg3 arg4 harg4 arg5 harg5 x) (arg5.view.readCov (scratchPieces c i arg1 harg1 arg2 harg2 arg3 harg3 arg4 harg4 arg5 harg5 x)
      (Rect.unit (s := S32x151936) ![0, 151552] ![32, 128] inb_S32x151936_S32x128_0_151552).toLoadRect)) (fun y => t _ 151552 rfl inb_S32x151936_S32x128_0_151552 y)
  have h2 := h1.cons 151680 _ rfl inb_S32x151936_S32x128_0_151680
    (k0_pay1 (F := Ideal) (k0_pay46 (F := Ideal) (sumVec c i arg1 harg1 arg2 harg2 arg3 harg3 arg4 harg4 arg5 harg5 x) (wordVec c i arg1 harg1 arg2 harg2 arg3 harg3 arg4 harg4 arg5 harg5 x) (arg5.view.readCov (scratchPieces c i arg1 harg1 arg2 harg2 arg3 harg3 arg4 harg4 arg5 harg5 x)
      (Rect.unit (s := S32x151936) ![0, 151680] ![32, 128] inb_S32x151936_S32x128_0_151680).toLoadRect)) (Scalar.ofBits .f32 0xC3E00000#32) (Scalar.ofBits .f32 0x43E00000#32))
      (fun y => t _ 151680 rfl inb_S32x151936_S32x128_0_151680 y)
  exact h2.cons 151808 _ rfl inb_S32x151936_S32x128_0_151808
    (k0_pay2 (F := Ideal) (k0_pay42 (F := Ideal) (sumVec c i arg1 harg1 arg2 harg2 arg3 harg3 arg4 harg4 arg5 harg5 x) (wordVec c i arg1 harg1 arg2 harg2 arg3 harg3 arg4 harg4 arg5 harg5 x)) (arg5.view.readCov (scratchPieces c i arg1 harg1 arg2 harg2 arg3 harg3 arg4 harg4 arg5 harg5 x)
      (Rect.unit (s := S32x151936) ![0, 151808] ![32, 128] inb_S32x151936_S32x128_0_151808).toLoadRect)) (fun y => t _ 151808 rfl inb_S32x151936_S32x128_0_151808 y)

end Cert.KernelIdeal

end
-- ==== Proof.KernelFrame.lean ====
/- The kernel's run at extended reals: what each of the three output windows holds after each grid point, and the frame. -/
module

public import proofs.«01_k».proof.Proof.BlockOut
public import Idealize.ShloMosaic.Lib.Claim

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The input block at a grid point. -/
def inBlock (c : Dev nD) (t : Fin cfg0.N) : S32x151936.Idx → EReal := iblk m c 0 t

/-- What the three output windows hold after the body at a grid point. -/
def lseBlock (c : Dev nD) (t : Fin cfg0.N) : Vec Ideal S32x128 .f32 := fun y => rowLse (inBlock m c t) (y 0)
@[inherit_doc lseBlock] def codeBlock (c : Dev nD) (t : Fin cfg0.N) : Vec Ideal S32x151936 .fp8e4m3 := fun y => rowCode (inBlock m c t) (y 0) (y 1).val
@[inherit_doc lseBlock] def scaleBlock (c : Dev nD) (t : Fin cfg0.N) : Vec Ideal S32x128 .f32 := fun y => rowScale (inBlock m c t) (y 0)

/-- The proof data of the pipeline: the arrays as the region finds them, and what the windows hold after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => lseBlock m c t
    | ⟨2, _⟩ => codeBlock m c t
    | ⟨3, _⟩ => scaleBlock m c t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
@[inherit_doc after0_0] theorem after0_1 (c : Dev nD) (t : Fin cfg0.N) : (dats m 0 c).after 1 t = lseBlock m c t := by dsimp only [dats]
@[inherit_doc after0_0] theorem after0_2 (c : Dev nD) (t : Fin cfg0.N) : (dats m 0 c).after 2 t = codeBlock m c t := by dsimp only [dats]
@[inherit_doc after0_0] theorem after0_3 (c : Dev nD) (t : Fin cfg0.N) : (dats m 0 c).after 3 t = scaleBlock m c t := by dsimp only [dats]

/-- The input's staging buffer holds its block at every point. -/
theorem before0_0 (c : Dev nD) (t : Fin cfg0.N) (d) : (dats m 0 c).before 0 t d = iblk m c 0 t :=
  before0_0_of m (dats m 0 c) (A_eq m c 0) (after0_0 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the run of the body, its pieces read as the three value functions. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hopen (d : S32x151936.Idx → Elt Ideal .f32) : (owns (c : Thread nD τ) scM0_0 fullShare d : sProp 𝕄)
      = iprop(∃ f, ⌜scM0_0.view.read (Elt Ideal) f = d⌝ ∗ (scM0_0.view.loc (c : Thread nD τ) ↦[scM0_0.view.set]{fullShare} f)) := rfl
  iintro ⟨⟨⟨%d4, HS⟩, Hg⟩, Ho, ⟨%d0, H0⟩, ⟨%d1, H1⟩, ⟨%d2, H2⟩, ⟨%d3, H3⟩⟩
  ihave HS' := (Entails.of_eq (hopen d4)) $$ HS
  icases HS' with ⟨%fs0, -, HS0⟩
  iapply ((kernelRun (F := Ideal) c (grid0.coords t) _ _ _ _ _ _ _ _ _ _ (iblk m c 0 t) fs0).2.2.2 Set.univ _)
  isplitl [H0]; · iexact H0
  isplitl [H1]; · iexists _; iexact H1
  isplitl [H2]; · iexists _; iexact H2
  isplitl [H3]; · iexists _; iexact H3
  isplitl [HS0]; · iexact HS0
  iintro ⟨H0, ⟨%e1, H1⟩, ⟨%e2, H2⟩, ⟨%e3, H3⟩, HS0⟩
  isplitl [HS0 Hg]
  · isplitl [HS0]
    · iexact HS0
    iexact Hg
  isplitl [Ho]; · iexact Ho
  isplitl [H0]; · iexact H0
  isplitl [H1]
  · unfold owns; iexists _; isplitr
    swap; · iexact H1
    ipureintro; exact funext fun y => lse_read c _ _ _ _ _ _ _ _ _ _ _ (inBlock m c t) fs0 e1 y
  isplitl [H2]
  · unfold owns; iexists _; isplitr
    swap; · iexact H2
    ipureintro; exact funext fun y => (codes_stored c _ _ _ _ _ _ _ _ _ _ _ (inBlock m c t) fs0).read _ e2 y
  unfold owns; iexists _; isplitr
  swap; · iexact H3
  ipureintro; exact funext fun y => scale_read c _ _ _ _ _ _ _ _ _ _ _ (inBlock m c t) fs0 e3 y

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every fair execution ends with the arrays as the proof data say, and with every semaphore counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument array ends unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument array ends unchanged, and every semaphore counter at zero. -/
theorem frameIdeal : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal

end
-- ==== Proof.RowFns.lean ====
/- The kernel's results as functions of one row. -/
module

public import proofs.«01_k».proof.Proof.BlockValue

@[expose] public section

set_option maxRecDepth 16384

noncomputable section

namespace Cert.KernelIdeal

open Gen
open Idealize.ShloMosaic Idealize.ShloMosaic.TcCoe

/-- The maximum of a row. -/
def vMax (f : Fin 151936 → EReal) : EReal := Finset.univ.sup f

/-- The sum of the row's exponentials. -/
def vSum (f : Fin 151936 → EReal) : EReal := ∑ n : Fin 151936, term (f n) (vMax f)

/-- The exponent counted for the row. -/
def vWord (f : Fin 151936 → EReal) : BitVec 32 := countWord (Ideal.div 1 (vSum f) * Ideal.ofBits .f32 0x3B124925#32)

/-- The row's logarithm of the sum. -/
def vLse (f : Fin 151936 → EReal) : EReal := Ideal.log (vSum f)

/-- The row's scale. -/
def vScale (f : Fin 151936 → EReal) : EReal := Ideal.ofBits .f32 ((vWord f - 126#32 + 127#32) <<< 23)

/-- The factor of the row's codes. -/
def vFactor (f : Fin 151936 → EReal) : EReal := Ideal.div (Ideal.ofBits .f32 ((127#32 - (vWord f - 126#32)) <<< 23)) (vSum f)

/-- The code of an entry of the row. -/
def vCode (f : Fin 151936 → EReal) (n : Fin 151936) : EReal := code (term (f n) (vMax f)) (vFactor f)

/-- A block's results are its rows'. -/
theorem rowLse_eq (x : S32x151936.Idx → EReal) (r : Fin 32) : rowLse x r = vLse fun n => x (ix2 r n) := rfl
@[inherit_doc rowLse_eq] theorem rowScale_eq (x : S32x151936.Idx → EReal) (r : Fin 32) : rowScale x r = vScale fun n => x (ix2 r n) := rfl
@[inherit_doc rowLse_eq] theorem rowCode_eq (x : S32x151936.Idx → EReal) (r : Fin 32) (n : Fin 151936) :
    rowCode x r n.val = vCode (fun n => x (ix2 r n)) n := by
  unfold rowCode expo
  rw [col_of_lt x r _ n.isLt]
  rfl

end Cert.KernelIdeal

end
-- ==== Proof.KernelArrays.lean ====
/- What the kernel's three output arrays hold after the run, row by row. -/
module

public import proofs.«01_k».proof.Proof.KernelFrame
public import proofs.«01_k».proof.Proof.RowFns
public import Idealize.ShloMosaic.Lib.Pipeline.ValueKit

@[expose] public section

set_option maxRecDepth 16384

noncomputable section

namespace Cert.KernelIdeal

open Gen
open Idealize.ShloMosaic Idealize.ShloMosaic.TcCoe Idealize.ShloMosaic.Tactic

variable (m : (ℓ : Loc nD τ sig) → Buf (Elt Ideal) ℓ)

/-- A row of the input array as the region finds it. -/
def inRow (c : Dev nD) (R : Fin 256) (n : Fin 151936) : EReal := (V m c main_v0 : S256x151936.Idx → EReal) (ix2 R n)

/-- The row of the array that a block's row is. -/
def rowAt (t : Fin cfg0.N) (r : Fin 32) : Fin 256 := ⟨t.val * 32 + r.val, by
  have h : t.val < 8 := t.isLt
  have := r.isLt
  omega⟩

/-- A row of the input block at a grid point is the array's row. -/
theorem inBlock_row (c : Dev nD) (t : Fin cfg0.N) (r : Fin 32) (n : Fin 151936) : inBlock m c t (ix2 r n) = inRow m c (rowAt t r) n := by
  have e : ∀ t : Fin cfg0.N, win0_0.index t = ![t.val, 0] := by decide +kernel
  show V m c main_v0 ((win0_0.rect t).emb (ix2 r n)) = V m c main_v0 (ix2 (rowAt t r) n)
  refine congrArg (V m c main_v0) (funext fun a => Fin.ext ?_)
  match a with
  | ⟨0, h⟩ => exact (Pipeline.Window.rect_emb_val win0_0 t (ix2 r n) ⟨0, h⟩).trans (by rw [e]; rfl)
  | ⟨1, h⟩ => exact Pipeline.Window.rect_emb_val_of_index_zero win0_0 t ⟨1, h⟩ (by rw [e]; rfl) (ix2 r n)

/-- The same of a whole row. -/
theorem inBlock_rows (c : Dev nD) (t : Fin cfg0.N) (r : Fin 32) : (fun n => inBlock m c t (ix2 r n)) = inRow m c (rowAt t r) :=
  funext fun n => inBlock_row m c t r n

/-- What the first output array holds: each row its logarithm of the sum. -/
theorem arr1 (c : Dev nD) : (dats m 0 c).arrAt 1 cfg0.N = fun y : S256x128.Idx => vLse (inRow m c (y 0)) := by
  have e : ∀ t : Fin cfg0.N, win0_1.index t = ![t.val, 0] := by decide +kernel
  refine (dats m 0 c).arrAt_eq_of_covers 1 _ (by decide +kernel) fun t hf y => ?_
  blk_simp [e]
  rw [after0_1]
  have h0 : (win0_1.rect t).emb y 0 = rowAt t (y 0) := by
    exact Fin.ext ((Pipeline.Window.rect_emb_val win0_1 t y 0).trans (by rw [e]; rfl))
  show rowLse (inBlock m c t) (y 0) = vLse (inRow m c ((win0_1.rect t).emb y 0))
  rw [h0]
  exact (rowLse_eq (inBlock m c t) (y 0)).trans (congrArg vLse (inBlock_rows m c t (y 0)))

/-- What the third output array holds: each row its scale. -/
theorem arr3 (c : Dev nD) : (dats m 0 c).arrAt 3 cfg0.N = fun y : S256x128.Idx => vScale (inRow m c (y 0)) := by
  have e : ∀ t : Fin cfg0.N, win0_3.index t = ![t.val, 0] := by decide +kernel
  refine (dats m 0 c).arrAt_eq_of_covers 3 _ (by decide +kernel) fun t hf y => ?_
  blk_simp [e]
  rw [after0_3]
  have h0 : (win0_3.rect t).emb y 0 = rowAt t (y 0) := by
    exact Fin.ext ((Pipeline.Window.rect_emb_val win0_3 t y 0).trans (by rw [e]; rfl))
  show rowScale (inBlock m c t) (y 0) = vScale (inRow m c ((win0_3.rect t).emb y 0))
  rw [h0]
  exact (rowScale_eq (inBlock m c t) (y 0)).trans (congrArg vScale (inBlock_rows m c t (y 0)))

/-- What the second output array holds: each entry its code. -/
theorem arr2 (c : Dev nD) : (dats m 0 c).arrAt 2 cfg0.N = fun y : S256x151936.Idx => vCode (inRow m c (y 0)) (y 1) := by
  have e : ∀ t : Fin cfg0.N, win0_2.index t = ![t.val, 0] := by decide +kernel
  refine (dats m 0 c).arrAt_eq_of_covers 2 _ (by decide +kernel) fun t hf y => ?_
  blk_simp [e]
  rw [after0_2]
  have h0 : (win0_2.rect t).emb y 0 = rowAt t (y 0) := by
    exact Fin.ext ((Pipeline.Window.rect_emb_val win0_2 t y 0).trans (by rw [e]; rfl))
  have h1 : (win0_2.rect t).emb y 1 = y 1 :=
    Fin.ext (Pipeline.Window.rect_emb_val_of_index_zero win0_2 t 1 (by rw [e]; rfl) y)
  show rowCode (inBlock m c t) (y 0) (y 1).val = vCode (inRow m c ((win0_2.rect t).emb y 0)) ((win0_2.rect t).emb y 1)
  rw [h0, h1]
  exact (rowCode_eq (inBlock m c t) (y 0) (y 1)).trans (congrArg (fun f => vCode f (y 1)) (inBlock_rows m c t (y 0)))

end Cert.KernelIdeal

end
-- ==== Proof.KernelResult.lean ====
/- What the kernel program's run leaves in its three results, read at an index of the input's shape. -/
module

public import proofs.«01_k».proof.Proof.KernelArrays
public import Idealize.ShloMosaic.Lib.Pointwise
public import Idealize.ShloMosaic.Lib.StableHlo.Run

@[expose] public section

set_option maxRecDepth 16384

noncomputable section

namespace Cert.KernelIdeal

open Gen
open Idealize.ShloMosaic Idealize.ShloMosaic.TcCoe Idealize.ShloMosaic.Tactic Idealize.ShloMosaic.StableHlo Idealize.SL.Sem

variable (m : (ℓ : Loc nD τ sig) → Buf (Elt Ideal) ℓ)

/-- A row of the program's argument. -/
def argRow (X : S2x128x151936.Idx → EReal) (b : Fin 2) (s : Fin 128) (n : Fin 151936) : EReal := X (ix3 b s n)

/-- The first result of an argument. -/
def resLse (X : S2x128x151936.Idx → EReal) (y : S2x128.Idx) : EReal := vLse (argRow X (y 0) (y 1))
/-- The second. -/
def resCode (X : S2x128x151936.Idx → EReal) (y : S2x128x151936.Idx) : EReal := vCode (argRow X (y 0) (y 1)) (y 2)
/-- The third. -/
def resScale (X : S2x128x151936.Idx → EReal) (y : S2x128.Idx) : EReal := vScale (argRow X (y 0) (y 1))

/-- The row of the array that a row of the argument becomes. -/
def flatRow (b : Fin 2) (s : Fin 128) : Fin 256 := ⟨b.val * 128 + s.val, by have := b.isLt; have := s.isLt; omega⟩

/-- The region finds the argument reshaped. -/
theorem V_main_v0 (c : Dev nD) : V m c main_v0 = shapeCast S256x151936 (m ((c.tc : Thread nD τ).loc main_arg0)) shapeCasts_S2x128x151936_S256x151936 := by
  show V0 m c (Proc.devRef .tc main_v0) = _
  simp only [Gen.V0, Gen.hostOps0, List.flatten_cons, List.flatten_nil, List.append_nil, List.cons_append, List.nil_append]
  after_results <;> rfl

/-- A reshape of the argument's shape read at a row. -/
theorem reshape_in (X : S2x128x151936.Idx → EReal) (b : Fin 2) (s : Fin 128) (n : Fin 151936) :
    shapeCast S256x151936 X shapeCasts_S2x128x151936_S256x151936 (ix2 (flatRow b s) n) = X (ix3 b s n) := by
  have h0 : (flatRow b s).val / 128 = b.val := by
    have := s.isLt
    show (b.val * 128 + s.val) / 128 = b.val
    omega
  have h1 : (flatRow b s).val % 128 = s.val := by
    have := s.isLt
    show (b.val * 128 + s.val) % 128 = s.val
    omega
  pointwise
  exact congrArg₂ (fun p q => X (ix3 p q n)) (Fin.ext h0) (Fin.ext h1)

/-- A reshape back to the argument's shape read at an entry. -/
theorem reshape_out (Y : S256x151936.Idx → EReal) (y : S2x128x151936.Idx) :
    shapeCast S2x128x151936 Y shapeCasts_S256x151936_S2x128x151936 y = Y (ix2 (flatRow (y 0) (y 1)) (y 2)) := by
  pointwise
  rfl

/-- The first column of an output array, reshaped, read at an entry. -/
theorem column_out (Y : S256x128.Idx → EReal) (y : S2x128.Idx) :
    shapeCast S2x128 (shapeCast S256 (extractStridedSlice S256x1 ![0, 0] Y slices_S256x128_S256x1_0_0) shapeCasts_S256x1_S256) shapeCasts_S256_S2x128 y
      = Y (ix2 (flatRow (y 0) (y 1)) (0 : Fin 128)) := by
  pointwise
  rfl

/-- A row that the region finds is the argument's. -/
theorem inRow_eq (c : Dev nD) (b : Fin 2) (s : Fin 128) : inRow m c (flatRow b s) = argRow (m ((c.tc : Thread nD τ).loc main_arg0)) b s := by
  funext n
  exact (congrFun (V_main_v0 m c) (ix2 (flatRow b s) n)).trans (reshape_in _ b s n)

/-- The contents when the region is left. -/
abbrev exitV (c : Dev nD) : Valuation τ sig (Elt Ideal) :=
  Pipeline.withArrays spec0 c (Gen.V0 m c) fun w => (dats m 0 c).arrAt w cfg0.N

/-- The output arrays when the region is left. -/
theorem exit_1 (c : Dev nD) : exitV m c (Proc.devRef .tc main_v1_0) = fun y : S256x128.Idx => vLse (inRow m c (y 0)) :=
  (Pipeline.withArrays_arr spec0 Gen.launch0.win.arr_inj c (Gen.V0 m c) _ 1).trans (arr1 m c)
@[inherit_doc exit_1] theorem exit_2 (c : Dev nD) : exitV m c (Proc.devRef .tc main_v1_1) = fun y : S256x151936.Idx => vCode (inRow m c (y 0)) (y 1) :=
  (Pipeline.withArrays_arr spec0 Gen.launch0.win.arr_inj c (Gen.V0 m c) _ 2).trans (arr2 m c)
@[inherit_doc exit_1] theorem exit_3 (c : Dev nD) : exitV m c (Proc.devRef .tc main_v1_2) = fun y : S256x128.Idx => vScale (inRow m c (y 0)) :=
  (Pipeline.withArrays_arr spec0 Gen.launch0.win.arr_inj c (Gen.V0 m c) _ 3).trans (arr3 m c)

/-- The later operations from any contents, read at the first result. -/
theorem tail_main_v4 (V0 : Valuation τ sig (Elt Ideal)) :
    after (List.flatten [Gen.hostOps1]) V0 (Proc.devRef .tc main_v4)
      = shapeCast S2x128 (shapeCast S256 (extractStridedSlice S256x1 ![0, 0] (V0 (Proc.devRef .tc main_v1_0)) slices_S256x128_S256x1_0_0) shapeCasts_S256x1_S256) shapeCasts_S256_S2x128 := by
  simp only [Gen.hostOps1, List.flatten_cons, List.flatten_nil, List.append_nil, List.cons_append, List.nil_append]
  after_results <;> rfl
/-- The same at the second. -/
theorem tail_main_v5 (V0 : Valuation τ sig (Elt Ideal)) :
    after (List.flatten [Gen.hostOps1]) V0 (Proc.devRef .tc main_v5) = shapeCast S2x128x151936 (V0 (Proc.devRef .tc main_v1_1)) shapeCasts_S256x151936_S2x128x151936 := by
  simp only [Gen.hostOps1, List.flatten_cons, List.flatten_nil, List.append_nil, List.cons_append, List.nil_append]
  after_results <;> rfl
/-- The same at the third. -/
theorem tail_main_v8 (V0 : Valuation τ sig (Elt Ideal)) :
    after (List.flatten [Gen.hostOps1]) V0 (Proc.devRef .tc main_v8)
      = shapeCast S2x128 (shapeCast S256 (extractStridedSlice S256x1 ![0, 0] (V0 (Proc.devRef .tc main_v1_2)) slices_S256x128_S256x1_0_0) shapeCasts_S256x1_S256) shapeCasts_S256_S2x128 := by
  simp only [Gen.hostOps1, List.flatten_cons, List.flatten_nil, List.append_nil, List.cons_append, List.nil_append]
  after_results <;> rfl

/-- The first result. -/
theorem fin_main_v4 (c : Dev nD) : Pipeline.afterTail₀ cfgs (dats m) 0 (Gen.V0 m) [Gen.hostOps1] c main_v4 = resLse (m ((c.tc : Thread nD τ).loc main_arg0)) := by
  refine (tail_main_v4 (exitV m c)).trans (funext fun y => ?_)
  rw [exit_1]
  refine (column_out _ y).trans ?_
  exact congrArg vLse (inRow_eq m c (y 0) (y 1))
/-- The second result. -/
theorem fin_main_v5 (c : Dev nD) : Pipeline.afterTail₀ cfgs (dats m) 0 (Gen.V0 m) [Gen.hostOps1] c main_v5 = resCode (m ((c.tc : Thread nD τ).loc main_arg0)) := by
  refine (tail_main_v5 (exitV m c)).trans (funext fun y => ?_)
  rw [exit_2]
  refine (reshape_out _ y).trans ?_
  exact congrArg (fun f => vCode f (y 2)) (inRow_eq m c (y 0) (y 1))
/-- The third result. -/
theorem fin_main_v8 (c : Dev nD) : Pipeline.afterTail₀ cfgs (dats m) 0 (Gen.V0 m) [Gen.hostOps1] c main_v8 = resScale (m ((c.tc : Thread nD τ).loc main_arg0)) := by
  refine (tail_main_v8 (exitV m c)).trans (funext fun y => ?_)
  rw [exit_3]
  refine (column_out _ y).trans ?_
  exact congrArg vScale (inRow_eq m c (y 0) (y 1))

/-- The run: each result holds its function of the argument, which is unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = resLse (m ((c.tc : Thread nD τ).loc main_arg0))
      ∧ r.2.mem ((c.tc : Thread nD τ).loc main_v5) = resCode (m ((c.tc : Thread nD τ).loc main_arg0))
      ∧ r.2.mem ((c.tc : Thread nD τ).loc main_v8) = resScale (m ((c.tc : Thread nD τ).loc main_arg0))
      ∧ r.2.mem ((c.tc : Thread nD τ).loc main_arg0) = m ((c.tc : Thread nD τ).loc main_arg0) :=
  (θ_run defs _ _).mono (fun _ h c => ⟨((h c).2 main_v4 (Pipeline.mem_restRefs_of main_v4 (by decide) (by decide))).trans (fin_main_v4 m c),
      ((h c).2 main_v5 (Pipeline.mem_restRefs_of main_v5 (by decide) (by decide))).trans (fin_main_v5 m c),
      ((h c).2 main_v8 (Pipeline.mem_restRefs_of main_v8 (by decide) (by decide))).trans (fin_main_v8 m c),
      ((h c).2 main_arg0 (Pipeline.mem_restRefs_of main_arg0 (by decide) (by decide))).trans (Gen.W_main_arg0 m (dats m) c)⟩) (run_main m ρ)

end Cert.KernelIdeal

end
-- ==== Proof.RefRow.lean ====
/- The reference's results as functions of one row. -/
module

public import Idealize.ShloMosaic.Lib.Pointwise
public import Idealize.ShloMosaic.Lib.IdealHost

@[expose] public section

noncomputable section

namespace Cert.ReferenceIdeal

open Idealize.ShloMosaic

/-- A logit over the temperature. -/
def rZ (f : Fin 151936 → EReal) (n : Fin 151936) : EReal := Ideal.div (f n) (Ideal.ofBits .f32 0x3F4CCCCD#32)

/-- Their maximum. -/
def rMax (f : Fin 151936 → EReal) : EReal := Finset.fold max (Ideal.ofBits .f32 0xFF800000#32) (fun n => rZ f n) Finset.univ

/-- The exponential of an entry. -/
def rExp (f : Fin 151936 → EReal) (n : Fin 151936) : EReal := Ideal.exp (rZ f n - rMax f)

/-- The sum of the exponentials. -/
def rSum (f : Fin 151936 → EReal) : EReal := ∑ n : Fin 151936, rExp f n

/-- The row's logarithm of the sum. -/
def rLse (f : Fin 151936 → EReal) : EReal := Ideal.log (rSum f)

/-- The reciprocal of the sum over the largest code. -/
def rQuot (f : Fin 151936 → EReal) : EReal := Ideal.div 1 (rSum f) * Ideal.ofBits .f32 0x3B124925#32

/-- The exponent of the row's scale. -/
def rEx (f : Fin 151936 → EReal) : EReal :=
  Ideal.liftRound Int.floor (Ideal.div (Ideal.log (rQuot f)) (Ideal.log (Ideal.ofBits .f32 0x40000000#32))) + 1

/-- The row's scale. -/
def rScale (f : Fin 151936 → EReal) : EReal := Ideal.pow (Ideal.ofBits .f32 0x40000000#32) (rEx f)

/-- The code of an entry. -/
def rCode (f : Fin 151936 → EReal) (n : Fin 151936) : EReal :=
  min (Ideal.ofBits .f32 0x43E00000#32) (max 0
    (Ideal.div (rExp f n) (rSum f) * Ideal.pow (Ideal.ofBits .f32 0x40000000#32) (-rEx f)))

end Cert.ReferenceIdeal

end
-- ==== Proof.RefValue.lean ====
/- What the reference program's run leaves in its three results, read at an index. -/
module

public import proofs.«01_k».proof.Proof.Gen.ReferenceIdeal.Run
public import proofs.«01_k».proof.Proof.RefRow
public import Idealize.ShloMosaic.Lib.Pointwise
public import Idealize.ShloMosaic.Lib.Pipeline.ValueKit

@[expose] public section

set_option maxRecDepth 16384

noncomputable section

namespace Cert.ReferenceIdeal

open Gen
open Idealize.ShloMosaic Idealize.ShloMosaic.TcCoe Idealize.ShloMosaic.Tactic Idealize.ShloMosaic.StableHlo Idealize.SL.Sem

/-- A row of the program's argument. -/
def argRow (X : S2x128x151936.Idx → EReal) (b : Fin 2) (s : Fin 128) (n : Fin 151936) : EReal := X (ix3 b s n)

/-- The array of exponentials. -/
def expT (X : FVec Ideal S2x128x151936 .bf16) : FVec Ideal S2x128x151936 .f32 :=
  Host.exp (subf (Host.divf (extf .f32 X bitsLt_bf16_f32) (broadcastInDim S2x128x151936 ![] bcast_S_S2x128x151936 (constant S_ .f32 0x3F4CCCCD#32))) (broadcastInDim S2x128x151936 ![0, 1, 2] bcast_S2x128x1_S2x128x151936_0_1_2 (broadcastInDim S2x128x1 ![0, 1] bcast_S2x128_S2x128x1_0_1 (Host.reduce FloatOps.maximumf (Host.divf (extf .f32 X bitsLt_bf16_f32) (broadcastInDim S2x128x151936 ![] bcast_S_S2x128x151936 (constant S_ .f32 0x3F4CCCCD#32))) (constant S_ .f32 0xFF800000#32) reducesTo_S2x128x151936_S2x128_d2 h_S_))))

/-- The array of sums. -/
def sumT (X : FVec Ideal S2x128x151936 .bf16) : FVec Ideal S2x128 .f32 :=
  Host.reduceAdd (expT X) (constant S_ .f32 0x00000000#32) reducesTo_S2x128x151936_S2x128_d2 h_S_

/-- The array of exponents. -/
def exT (X : FVec Ideal S2x128x151936 .bf16) : FVec Ideal S2x128x1 .f32 :=
  addf (Host.floor (Host.divf (Host.log (mulf (Host.divf (broadcastInDim S2x128x1 ![] bcast_S_S2x128x1 (constant S_ .f32 0x3F800000#32)) (broadcastInDim S2x128x1 ![0, 1] bcast_S2x128_S2x128x1_0_1 (sumT X))) (broadcastInDim S2x128x1 ![] bcast_S_S2x128x1 (constant S_ .f32 0x3B124925#32)))) (broadcastInDim S2x128x1 ![] bcast_S_S2x128x1 (Host.log (constant S_ .f32 0x40000000#32))))) (broadcastInDim S2x128x1 ![] bcast_S_S2x128x1 (constant S_ .f32 0x3F800000#32))

/-- The array of values before the cast. -/
def codeT (X : FVec Ideal S2x128x151936 .bf16) : FVec Ideal S2x128x151936 .f32 :=
  minimumf (broadcastInDim S2x128x151936 ![] bcast_S_S2x128x151936 (constant S_ .f32 0x43E00000#32))
    (maximumf (broadcastInDim S2x128x151936 ![] bcast_S_S2x128x151936 (constant S_ .f32 0x00000000#32))
      (mulf (Host.divf (expT X) (broadcastInDim S2x128x151936 ![0, 1, 2] bcast_S2x128x1_S2x128x151936_0_1_2 (broadcastInDim S2x128x1 ![0, 1] bcast_S2x128_S2x128x1_0_1 (sumT X))))
        (broadcastInDim S2x128x151936 ![0, 1, 2] bcast_S2x128x1_S2x128x151936_0_1_2 (Host.powf (broadcastInDim S2x128x1 ![] bcast_S_S2x128x1 (constant S_ .f32 0x40000000#32)) (Host.negf (exT X))))))

/-- An exponential at an entry. -/
theorem expT_apply (X : FVec Ideal S2x128x151936 .bf16) (b : Fin 2) (s : Fin 128) (n : Fin 151936) : expT X (ix3 b s n) = rExp (argRow X b s) n := by
  unfold expT
  pointwise
  rfl

/-- A sum at an entry. -/
theorem sumT_apply (X : FVec Ideal S2x128x151936 .bf16) (b : Fin 2) (s : Fin 128) : sumT X (ix2 b s) = rSum (argRow X b s) := by
  unfold sumT
  pointwise
  exact Finset.sum_congr rfl fun n _ => expT_apply X b s n

/-- An exponent at an entry. -/
theorem exT_apply (X : FVec Ideal S2x128x151936 .bf16) (b : Fin 2) (s : Fin 128) : exT X (ix3 b s (0 : Fin 1)) = rEx (argRow X b s) := by
  unfold exT
  pointwise
  rw [sumT_apply]
  rfl

/-- The first result at an entry. -/
theorem lse_apply (X : FVec Ideal S2x128x151936 .bf16) (y : S2x128.Idx) :
    shapeCast S2x128 (Host.log (broadcastInDim S2x128x1 ![0, 1] bcast_S2x128_S2x128x1_0_1 (sumT X))) shapeCasts_S2x128x1_S2x128 y = rLse (argRow X (y 0) (y 1)) := by
  pointwise
  exact congrArg Ideal.log ((congrArg (sumT X) (ix2_eta y).symm).trans (sumT_apply X (y 0) (y 1)))

/-- The third result at an entry. -/
theorem scale_apply (X : FVec Ideal S2x128x151936 .bf16) (y : S2x128.Idx) :
    shapeCast S2x128 (Host.powf (broadcastInDim S2x128x1 ![] bcast_S_S2x128x1 (constant S_ .f32 0x40000000#32)) (exT X)) shapeCasts_S2x128x1_S2x128 y = rScale (argRow X (y 0) (y 1)) := by
  pointwise
  exact congrArg (Ideal.pow _) (exT_apply X (y 0) (y 1))

/-- The value before the cast at an entry. -/
theorem codeT_apply (X : FVec Ideal S2x128x151936 .bf16) (b : Fin 2) (s : Fin 128) (n : Fin 151936) : codeT X (ix3 b s n) = rCode (argRow X b s) n := by
  unfold codeT
  pointwise
  rw [expT_apply, sumT_apply, exT_apply]
  rfl

/-- The cast's payload is its operand. -/
theorem cast_apply (v : S2x128x151936.Idx → EReal) : k0_pay1 (F := Ideal) v = v := by
  unfold k0_pay1
  exact shapeCast_self v shapeCasts_S2x128x151936_S2x128x151936

/-- The cast's body leaves its operand. -/
theorem out_eq (x : S2x128x151936.Idx → EReal) : out0_1 (F := Ideal) x = x := by
  unfold out0_1
  frame_out
  exact cast_apply x

variable (m : (ℓ : Loc nD τ sig) → Buf (Elt Ideal) ℓ)

/-- The cast's operand when its region is entered. -/
theorem V_main_v32 (c : Dev nD) : V m c main_v32 = codeT (m ((c.tc : Thread nD τ).loc main_arg0)) := by
  show Gen.V0 m c (Proc.devRef .tc main_v32) = _
  simp only [Gen.V0, Gen.hostOps0, Gen.hostOps0_1, TRef.binary, TRef.unary, TRef.toBuf, TRef.ofBuf, cast_eq, List.flatten_cons, List.flatten_nil, List.append_nil, List.cons_append, List.nil_append]
  after_results_simp <;> rfl

/-- The cast leaves its operand. -/
theorem reg_eq (c : Dev nD) : Value.reg_main_v33 m c = codeT (m ((c.tc : Thread nD τ).loc main_arg0)) := by
  have e0 : ∀ t : Fin cfg0.N, win0_0.index t = ![0, 0, 0] := by decide +kernel
  have e1 : ∀ t : Fin cfg0.N, win0_1.index t = ![0, 0, 0] := by decide +kernel
  refine (dats m 0 c).arrAt_eq_of_covers 1 _ (by decide +kernel) fun t hf y => ?_
  blk_simp [e1]
  rw [after0_1]
  have h1 : (win0_1.rect t).emb y = y := funext fun a => Fin.ext (Pipeline.Window.rect_emb_val_of_index_zero win0_1 t a (by rw [e1]; fin_cases a <;> rfl) y)
  have h0 : iblk m c 0 t = codeT (m ((c.tc : Thread nD τ).loc main_arg0)) := by
    funext y
    have h : (win0_0.rect t).emb y = y := funext fun a => Fin.ext (Pipeline.Window.rect_emb_val_of_index_zero win0_0 t a (by rw [e0]; fin_cases a <;> rfl) y)
    show V m c main_v32 ((win0_0.rect t).emb y) = _
    rw [h, V_main_v32]
  rw [h0]
  refine Eq.trans ?_ (congrArg (codeT (m ((c.tc : Thread nD τ).loc main_arg0))) h1).symm
  exact congrFun (out_eq _) y

/-- The first result of an argument. -/
def refLse (X : S2x128x151936.Idx → EReal) (y : S2x128.Idx) : EReal := rLse (argRow X (y 0) (y 1))
/-- The second. -/
def refCode (X : S2x128x151936.Idx → EReal) (y : S2x128x151936.Idx) : EReal := rCode (argRow X (y 0) (y 1)) (y 2)
/-- The third. -/
def refScale (X : S2x128x151936.Idx → EReal) (y : S2x128.Idx) : EReal := rScale (argRow X (y 0) (y 1))

/-- The run: each result holds its function of the argument, which is unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v11) = refLse (m ((c.tc : Thread nD τ).loc main_arg0))
      ∧ r.2.mem ((c.tc : Thread nD τ).loc main_v33) = refCode (m ((c.tc : Thread nD τ).loc main_arg0))
      ∧ r.2.mem ((c.tc : Thread nD τ).loc main_v34) = refScale (m ((c.tc : Thread nD τ).loc main_arg0))
      ∧ r.2.mem ((c.tc : Thread nD τ).loc main_arg0) = m ((c.tc : Thread nD τ).loc main_arg0) :=
  (θ_run defs _ _).mono (fun _ h c => ⟨(h c).1.trans (funext fun y => lse_apply _ y),
      (h c).2.1.trans ((reg_eq m c).trans (funext fun y => (congrArg (codeT _) (ix3_eta y).symm).trans (codeT_apply _ (y 0) (y 1) (y 2)))),
      (h c).2.2.1.trans (funext fun y => scale_apply _ y), (h c).2.2.2⟩) (Value.run m ρ)

end Cert.ReferenceIdeal

end
-- ==== Proof.Powers.lean ====
/- The words that hold a bare exponent field, as powers of two, and how many of them a value reaches. -/
module

public import proofs.«01_k».proof.Proof.Payloads

@[expose] public section

noncomputable section

namespace Cert.KernelIdeal

open Idealize.ShloMosaic

/-- The fields of a word that holds a bare exponent. -/
theorem fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

/-- A word that holds a bare exponent of a normal number is a power of two. -/
theorem ofBits_pow (k : ℕ) (h0 : 0 < k) (h1 : k < 255) : Ideal.ofBits .f32 (BitVec.ofNat 32 k <<< 23) = (((2 : ℝ) ^ ((k : ℤ) - 127) : ℝ) : EReal) := by
  obtain ⟨f0, f1, f2⟩ := fields ⟨k, by omega⟩
  have e : ((2 : ℝ) ^ (23 : ℤ) * (2 : ℝ) ^ ((k : ℤ) - 127 - 23)) = (2 : ℝ) ^ ((k : ℤ) - 127) := by
    rw [← zpow_add₀ (two_ne_zero)]
    exact congrArg (fun n : ℤ => (2 : ℝ) ^ n) (by ring)
  have e' : (1 : ℝ) * ((2 ^ 23 + 0 : ℕ) : ℝ) * (2 : ℝ) ^ ((k : ℤ) - (2 ^ (8 - 1) - 1) - ((23 : ℕ) : ℤ)) = (2 : ℝ) ^ ((k : ℤ) - 127) := by
    rw [← e]
    norm_num
  simp only [Ideal.ofBits, Ideal.ieee]
  simp only [] at f0 f1 f2
  rw [f0, f1, f2, if_neg (by omega), if_neg (by omega)]
  exact congrArg Real.toEReal e'

/-- The word of exponent zero is zero. -/
theorem ofBits_pow_zero : Ideal.ofBits .f32 (BitVec.ofNat 32 0 <<< 23) = 0 := by simp [Ideal.ofBits, Ideal.ieee]

/-- The word of the largest exponent is infinite. -/
theorem ofBits_pow_top : Ideal.ofBits .f32 (BitVec.ofNat 32 255 <<< 23) = ⊤ := by simp [Ideal.ofBits, Ideal.ieee]

/-- A positive value with a normal exponent reaches the words up to its own exponent's. -/
theorem reached_iff (q : ℝ) (E : ℕ) (h0 : 0 < E) (h1 : E < 254) (hl : (2 : ℝ) ^ ((E : ℤ) - 127) ≤ q) (hu : q < (2 : ℝ) ^ ((E : ℤ) - 127 + 1)) (k : Fin 256) :
    Ideal.ofBits .f32 (BitVec.ofNat 32 k.val <<< 23) ≤ (q : EReal) ↔ k.val ≤ E := by
  have hq : 0 < q := lt_of_lt_of_le (by positivity) hl
  rcases Nat.eq_zero_or_pos k.val with hk | hk
  · rw [hk, ofBits_pow_zero]
    exact ⟨fun _ => Nat.zero_le _, fun _ => by exact_mod_cast hq.le⟩
  rcases Nat.lt_or_ge k.val 255 with hk' | hk'
  · rw [ofBits_pow _ hk hk', EReal.coe_le_coe_iff]
    constructor
    · intro h
      have := (zpow_lt_zpow_iff_right₀ (by norm_num : (1 : ℝ) < 2)).mp (lt_of_le_of_lt h hu)
      omega
    · intro h
      exact le_trans (zpow_le_zpow_right₀ (by norm_num) (by omega)) hl
  · have hk'' : k.val = 255 := by have := k.isLt; omega
    rw [hk'', ofBits_pow_top]
    exact ⟨fun h => absurd h (by simp), fun h => by omega⟩

/-- The counted exponent of a value in range is its exponent. -/
theorem countWord_exponent (q : ℝ) (E : ℕ) (h0 : 100 ≤ E) (h1 : E ≤ 118) (hl : (2 : ℝ) ^ ((E : ℤ) - 127) ≤ q) (hu : q < (2 : ℝ) ^ ((E : ℤ) - 127 + 1)) :
    countWord (q : EReal) = BitVec.ofNat 32 E := by
  have hc : (Finset.univ.filter fun k : Fin 256 => Ideal.ofBits .f32 (BitVec.ofNat 32 k.val <<< 23) ≤ (q : EReal)).card = E + 1 := by
    rw [Finset.filter_congr fun k _ => reached_iff q E (by omega) (by omega) hl hu k]
    have : (Finset.univ.filter fun k : Fin 256 => k.val ≤ E) = Finset.Iic (⟨E, by omega⟩ : Fin 256) := by
      ext k
      simp [Fin.le_def]
    rw [this, Fin.card_Iic]
  rw [countWord_eq _ _ hc]
  interval_cases E <;> rfl

/-- The word of the scale: one more than the exponent. -/
theorem scale_word (E : ℕ) (h0 : 100 ≤ E) (h1 : E ≤ 118) : (BitVec.ofNat 32 E - 126#32 + 127#32 : BitVec 32) = BitVec.ofNat 32 (E + 1) := by
  interval_cases E <;> rfl

/-- The word of the scale's inverse. -/
theorem inv_word (E : ℕ) (h0 : 100 ≤ E) (h1 : E ≤ 118) : (127#32 - (BitVec.ofNat 32 E - 126#32) : BitVec 32) = BitVec.ofNat 32 (253 - E) := by
  interval_cases E <;> rfl

end Cert.KernelIdeal

end
-- ==== Proof.RowMath.lean ====
/- One row of the kernel and one of the reference are equal, given a finite maximum. -/
module

public import proofs.«01_k».proof.Proof.Powers
public import proofs.«01_k».proof.Proof.RowFns
public import proofs.«01_k».proof.Proof.RefRow

@[expose] public section

noncomputable section

namespace Cert.RowMath

open Idealize.ShloMosaic Cert.KernelIdeal Cert.ReferenceIdeal

/-- The temperature. -/
def temp : ℝ := 13421773 / 16777216

theorem temp_pos : 0 < temp := by unfold temp; norm_num

/-- The reciprocal of the largest code, as a float. -/
def inv448 : ℝ := 9586981 / 4294967296

/-- The temperature's word. -/
theorem ofBits_temp : Ideal.ofBits .f32 0x3F4CCCCD#32 = (temp : EReal) := by
  unfold temp
  simp [Ideal.ofBits, Ideal.ieee]
  rw [← EReal.coe_mul]
  exact congrArg Real.toEReal (by norm_num)

/-- The word of the largest code's reciprocal. -/
theorem ofBits_inv448 : Ideal.ofBits .f32 0x3B124925#32 = (inv448 : EReal) := by
  unfold inv448
  simp [Ideal.ofBits, Ideal.ieee]
  rw [← EReal.coe_mul]
  exact congrArg Real.toEReal (by norm_num)

/-- The largest code's word. -/
theorem ofBits_448 : Ideal.ofBits .f32 0x43E00000#32 = ((448 : ℝ) : EReal) := by
  simp [Ideal.ofBits, Ideal.ieee]
  rw [← EReal.coe_mul]
  exact congrArg Real.toEReal (by norm_num)

/-- The least code's word. -/
theorem ofBits_neg448 : Ideal.ofBits .f32 0xC3E00000#32 = ((-448 : ℝ) : EReal) := by
  simp [Ideal.ofBits, Ideal.ieee]
  rw [← EReal.coe_mul]
  exact congrArg Real.toEReal (by norm_num)

/-- The word of two. -/
theorem ofBits_two : Ideal.ofBits .f32 0x40000000#32 = ((2 : ℝ) : EReal) := by
  simp [Ideal.ofBits, Ideal.ieee]
  rw [← EReal.coe_mul]
  exact congrArg Real.toEReal (by norm_num)

/-- The word of the least value. -/
theorem ofBits_bot : Ideal.ofBits .f32 0xFF800000#32 = ⊥ := by simp [Ideal.ofBits, Ideal.ieee]

/-- The named constant's value. -/
theorem kap_eq : kap = (((Real.log 2)⁻¹ * temp⁻¹ : ℝ) : EReal) :=
  IdealRules.named_const.ideal_named_scalar (φ := .f32) Cert.KernelIdeal.κ "log2e_over_t" 0x3FE6D4CA#32
    (((Real.log 2)⁻¹ * (13421773 / 16777216)⁻¹ : ℝ) : EReal) rfl

/-- Division by the temperature. -/
theorem rZ_eq (f : Fin 151936 → EReal) (n : Fin 151936) : rZ f n = f n * ((1 / temp : ℝ) : EReal) := by
  unfold rZ
  rw [ofBits_temp, Ideal.div_coe temp_pos.ne']

/-- An entry's exponential, in the kernel's form and in the reference's, is the same real number in [0, 1]. -/
theorem entry (a : EReal) (M : ℝ) (h : a ≤ M) : ∃ g : ℝ, 0 ≤ g ∧ g ≤ 1 ∧ term a M = g
    ∧ Ideal.exp (a * ((1 / temp : ℝ) : EReal) - ((M * (1 / temp) : ℝ) : EReal)) = g := by
  have hl : 0 < Real.log 2 := Real.log_pos (by norm_num)
  have ht := temp_pos
  unfold term
  rw [kap_eq]
  induction a using EReal.rec with
  | bot =>
    refine ⟨0, le_rfl, zero_le_one, ?_, ?_⟩
    · rw [EReal.bot_sub, EReal.bot_mul_coe_of_pos (by positivity)]
      simp
    · rw [EReal.bot_mul_coe_of_pos (by positivity), EReal.bot_sub]
      simp
  | top => exact absurd h (by simp)
  | coe x =>
    have hx : x ≤ M := by exact_mod_cast h
    refine ⟨Real.exp ((x - M) / temp), (Real.exp_pos _).le, ?_, ?_, ?_⟩
    · rw [Real.exp_le_one_iff]
      exact div_nonpos_of_nonpos_of_nonneg (by linarith) ht.le
    · rw [← EReal.coe_sub, ← EReal.coe_mul, Ideal.exp2_coe]
      refine congrArg Real.toEReal ?_
      show (2 : ℝ) ^ ((x - M) * ((Real.log 2)⁻¹ * temp⁻¹)) = _
      rw [Real.rpow_def_of_pos (by norm_num)]
      congr 1
      field_simp
    · rw [← EReal.coe_mul, ← EReal.coe_sub, Ideal.exp_coe]
      refine congrArg Real.toEReal ?_
      congr 1
      field_simp

/-- The largest entry's exponential is one. -/
theorem entry_max (M : ℝ) : term (M : EReal) M = ((1 : ℝ) : EReal) := by
  unfold term
  rw [kap_eq, ← EReal.coe_sub, ← EReal.coe_mul, Ideal.exp2_coe]
  refine congrArg Real.toEReal ?_
  rw [sub_self, zero_mul]
  exact Real.rpow_zero 2

/-- The reference's maximum is the kernel's over the temperature. -/
theorem rMax_eq (f : Fin 151936 → EReal) (M : ℝ) (h : vMax f = M) : rMax f = ((M * (1 / temp) : ℝ) : EReal) := by
  have ht := temp_pos
  have hm : Monotone fun a : EReal => a * ((1 / temp : ℝ) : EReal) := fun a b hab =>
    mul_le_mul_of_nonneg_right hab (by exact_mod_cast (by positivity : (0 : ℝ) ≤ 1 / temp))
  have hb : (⊥ : EReal) * ((1 / temp : ℝ) : EReal) = ⊥ := EReal.bot_mul_coe_of_pos (by positivity)
  have e := Finset.comp_sup_eq_sup_comp_of_is_total (s := Finset.univ) (f := f) (fun a : EReal => a * ((1 / temp : ℝ) : EReal)) hm hb
  unfold rMax
  rw [ofBits_bot]
  unfold vMax at h
  rw [h] at e
  rw [EReal.coe_mul]
  refine Eq.trans ?_ e.symm
  show Finset.univ.sup (fun n => rZ f n) = _
  exact Finset.sup_congr rfl fun n _ => rZ_eq f n

/-- A sum of reals is the same in the extended reals. -/
theorem coe_sum (g : Fin 151936 → ℝ) : ∑ n, ((g n : ℝ) : EReal) = ((∑ n, g n : ℝ) : EReal) :=
  (map_sum (⟨⟨Real.toEReal, EReal.coe_zero⟩, EReal.coe_add⟩ : ℝ →+ EReal) g Finset.univ).symm

/-- A row's exponentials as reals: in [0, 1], the same on both sides, with a sum between 1 and the row's length. -/
theorem row (f : Fin 151936 → EReal) (M : ℝ) (h : vMax f = M) : ∃ (g : Fin 151936 → ℝ) (S : ℝ), (∀ n, 0 ≤ g n ∧ term (f n) (vMax f) = g n ∧ rExp f n = g n)
    ∧ 1 ≤ S ∧ S ≤ 151936 ∧ vSum f = S ∧ rSum f = S := by
  have hle : ∀ n, f n ≤ M := fun n => h ▸ Finset.le_sup (f := f) (Finset.mem_univ n)
  choose g hg0 hg1 hgt hgr using fun n => entry (f n) M (hle n)
  have hr : ∀ n, rExp f n = g n := fun n => by
    unfold rExp
    rw [rZ_eq, rMax_eq f M h]
    exact hgr n
  have ht : ∀ n, term (f n) (vMax f) = g n := fun n => by rw [h]; exact hgt n
  refine ⟨g, ∑ n, g n, fun n => ⟨hg0 n, ht n, hr n⟩, ?_, ?_, ?_, ?_⟩
  · obtain ⟨k, -, hk⟩ := Finset.exists_mem_eq_sup Finset.univ ⟨(0 : Fin 151936), Finset.mem_univ _⟩ f
    have hk' : f k = M := hk.symm.trans h
    have h1 : g k = 1 := by
      have := (hgt k).symm
      rw [hk', entry_max] at this
      exact_mod_cast this
    calc (1 : ℝ) = g k := h1.symm
      _ ≤ ∑ n, g n := Finset.single_le_sum (fun n _ => hg0 n) (Finset.mem_univ k)
  · calc ∑ n, g n ≤ ∑ _n : Fin 151936, (1 : ℝ) := Finset.sum_le_sum fun n _ => hg1 n
      _ = 151936 := by rw [Finset.sum_const, Finset.card_univ, Fintype.card_fin, nsmul_eq_mul, mul_one]; norm_num
  · unfold vSum
    rw [← coe_sum]
    exact Finset.sum_congr rfl fun n _ => ht n
  · unfold rSum
    rw [← coe_sum]
    exact Finset.sum_congr rfl fun n _ => hr n

/-- The first results are equal. -/
theorem lse_eq (f : Fin 151936 → EReal) (M : ℝ) (h : vMax f = M) : vLse f = rLse f := by
  obtain ⟨g, S, -, -, -, hv, hr⟩ := row f M h
  unfold vLse rLse
  rw [hv, hr]

/-- The exponent of a value between two powers of two is one of those between, on both sides. -/
theorem exponent (q : ℝ) (hl : (2 : ℝ) ^ (-27 : ℤ) ≤ q) (hu : q < (2 : ℝ) ^ (-8 : ℤ)) :
    ∃ E : ℕ, 100 ≤ E ∧ E ≤ 118 ∧ (2 : ℝ) ^ ((E : ℤ) - 127) ≤ q ∧ q < (2 : ℝ) ^ ((E : ℤ) - 127 + 1)
      ∧ ⌊Real.log q / Real.log 2⌋ = (E : ℤ) - 127 := by
  have hq : 0 < q := lt_of_lt_of_le (by positivity) hl
  have h2 : (1 : ℝ) < 2 := by norm_num
  have hb : ∀ n : ℤ, ((2 : ℝ) ^ n ≤ q ↔ (n : ℝ) ≤ Real.log q / Real.log 2) := fun n => by
    rw [le_div_iff₀ (Real.log_pos h2), ← Real.log_zpow]
    exact (Real.log_le_log_iff (by positivity) hq).symm
  have hlo : -27 ≤ ⌊Real.log q / Real.log 2⌋ := Int.le_floor.mpr ((hb _).mp hl)
  have hhi : ⌊Real.log q / Real.log 2⌋ < -8 := by
    rw [Int.floor_lt]
    exact lt_of_not_ge fun hc => absurd ((hb _).mpr hc) (not_le.mpr hu)
  obtain ⟨E, hE⟩ := Int.eq_ofNat_of_zero_le (show 0 ≤ ⌊Real.log q / Real.log 2⌋ + 127 by omega)
  have hE' : (E : ℤ) - 127 = ⌊Real.log q / Real.log 2⌋ := by omega
  refine ⟨E, by omega, by omega, ?_, ?_, hE'.symm⟩
  · rw [hb, hE']
    exact Int.floor_le _
  · refine lt_of_not_ge fun hc => ?_
    have := (hb _).mp hc
    rw [hE'] at this
    push_cast at this
    linarith [Int.lt_floor_add_one (Real.log q / Real.log 2)]

/-- The exponent of a row: the kernel's counted word and the reference's floor of a logarithm. -/
theorem row_exponent (f : Fin 151936 → EReal) (S : ℝ) (h1 : 1 ≤ S) (h2 : S ≤ 151936) (hv : vSum f = S) (hr : rSum f = S) :
    ∃ E : ℕ, 100 ≤ E ∧ E ≤ 118 ∧ vWord f = BitVec.ofNat 32 E ∧ rEx f = (((((E : ℤ) - 126 : ℤ) : ℝ)) : EReal) := by
  have hS : 0 < S := by linarith
  have hq : Ideal.div 1 (S : EReal) * Ideal.ofBits .f32 0x3B124925#32 = ((1 / S * inv448 : ℝ) : EReal) := by
    rw [Ideal.div_coe hS.ne', ofBits_inv448, one_mul, EReal.coe_mul]
  have hi : (0 : ℝ) < inv448 := by unfold inv448; norm_num
  have hl : (2 : ℝ) ^ (-27 : ℤ) ≤ 1 / S * inv448 := by
    have : (1 : ℝ) / 151936 ≤ 1 / S := one_div_le_one_div_of_le hS h2
    refine le_trans ?_ (mul_le_mul_of_nonneg_right this hi.le)
    unfold inv448
    norm_num
  have hu : 1 / S * inv448 < (2 : ℝ) ^ (-8 : ℤ) := by
    have : (1 : ℝ) / S ≤ 1 := by rw [div_le_one hS]; exact h1
    refine lt_of_le_of_lt (mul_le_mul_of_nonneg_right this hi.le) ?_
    unfold inv448
    norm_num
  obtain ⟨E, hE0, hE1, hEl, hEu, hEf⟩ := exponent _ hl hu
  have hpos : ¬ (1 / S * inv448 ≤ 0) := not_le.mpr (by positivity)
  have hlog : 0 < Real.log 2 := Real.log_pos (by norm_num)
  refine ⟨E, hE0, hE1, ?_, ?_⟩
  · unfold vWord
    rw [hv, hq]
    exact countWord_exponent _ E hE0 hE1 hEl hEu
  · unfold rEx rQuot
    rw [hr, hq, ofBits_two, Ideal.log_coe, if_neg hpos, Ideal.log_coe, if_neg (by norm_num), Ideal.div_coe hlog.ne', ← EReal.coe_mul,
      mul_one_div, Ideal.liftRound_coe, hEf, ← EReal.coe_one, ← EReal.coe_add]
    refine congrArg Real.toEReal ?_
    push_cast
    ring

/-- The third results are equal. -/
theorem scale_eq (f : Fin 151936 → EReal) (M : ℝ) (h : vMax f = M) : vScale f = rScale f := by
  obtain ⟨g, S, -, h1, h2, hv, hr⟩ := row f M h
  obtain ⟨E, hE0, hE1, hw, hx⟩ := row_exponent f S h1 h2 hv hr
  unfold vScale rScale
  rw [hw, hx, scale_word E hE0 hE1, ofBits_pow _ (by omega) (by omega), ofBits_two, Ideal.pow_coe_coe]
  refine congrArg Real.toEReal ?_
  show _ = (2 : ℝ) ^ ((((E : ℤ) - 126 : ℤ) : ℝ))
  rw [Real.rpow_intCast]
  exact congrArg (fun n : ℤ => (2 : ℝ) ^ n) (by push_cast; ring)

/-- The second results are equal. -/
theorem code_eq (f : Fin 151936 → EReal) (M : ℝ) (h : vMax f = M) (n : Fin 151936) : vCode f n = rCode f n := by
  obtain ⟨g, S, hg, h1, h2, hv, hr⟩ := row f M h
  obtain ⟨E, hE0, hE1, hw, hx⟩ := row_exponent f S h1 h2 hv hr
  obtain ⟨hg0, hgt, hgr⟩ := hg n
  have hS : 0 < S := by linarith
  have hp : Ideal.pow (Ideal.ofBits .f32 0x40000000#32) (-rEx f) = (((2 : ℝ) ^ (((253 - E : ℕ) : ℤ) - 127) : ℝ) : EReal) := by
    rw [hx, ofBits_two, ← EReal.coe_neg, Ideal.pow_coe_coe]
    refine congrArg Real.toEReal ?_
    show (2 : ℝ) ^ (-((((E : ℤ) - 126 : ℤ) : ℝ))) = _
    rw [← Int.cast_neg, Real.rpow_intCast]
    exact congrArg (fun n : ℤ => (2 : ℝ) ^ n) (by omega)
  have hf : vFactor f = (((2 : ℝ) ^ (((253 - E : ℕ) : ℤ) - 127) * (1 / S) : ℝ) : EReal) := by
    unfold vFactor
    rw [hw, inv_word E hE0 hE1, ofBits_pow _ (by omega) (by omega), hv, Ideal.div_coe hS.ne', ← EReal.coe_mul]
  unfold vCode rCode code
  rw [hgt, hgr, hp, hf, hr, Ideal.div_coe hS.ne', ofBits_448, ofBits_neg448, ← EReal.coe_mul, ← EReal.coe_mul, ← EReal.coe_mul, ← EReal.coe_zero]
  have hc : g n * ((2 : ℝ) ^ (((253 - E : ℕ) : ℤ) - 127) * (1 / S)) = g n * (1 / S) * (2 : ℝ) ^ (((253 - E : ℕ) : ℤ) - 127) := by ring
  have hn : 0 ≤ g n * (1 / S) * (2 : ℝ) ^ (((253 - E : ℕ) : ℤ) - 127) := by positivity
  rw [hc, max_eq_right (EReal.coe_le_coe_iff.mpr hn), max_eq_right (EReal.coe_le_coe_iff.mpr (by linarith))]

end Cert.RowMath

end
-- ==== Proof.PreRow.lean ====
/- What the precondition says of a row: its maximum is finite. -/
module

public import proofs.«01_k».proof.Proof.RowMath
public import proofs.«01_k».proof.Proof.Gen.Pre_rows_have_a_finite_maximum
public import Idealize.ShloMosaic.Lib.ReduceAll

@[expose] public section

set_option maxRecDepth 16384

noncomputable section

namespace Cert.Pre_rows_have_a_finite_maximum

open Facts
open Idealize.ShloMosaic Idealize.ShloMosaic.Tactic

/-- The array of the rows' maxima. -/
def maxT (X : FVec Ideal S2x128x151936 .bf16) : FVec Ideal S2x128 .f32 :=
  Host.reduce FloatOps.maximumf (extf .f32 X bitsLt_bf16_f32) (constant S_ .f32 0xFF800000#32) reducesTo_S2x128x151936_S2x128_d2 h_S_

/-- The array of the tests of some values: above minus infinity and below infinity. -/
def testT (v : FVec Ideal S2x128 .f32) : IVec S2x128 1 :=
  andi (cmpf .ogt v (broadcastInDim S2x128 ![] bcast_S_S2x128 (constant S_ .f32 0xFF800000#32)))
    (cmpf .olt v (broadcastInDim S2x128 ![] bcast_S_S2x128 (constant S_ .f32 0x7F800000#32)))

/-- The fold of the greater of two values is the least upper bound. -/
theorem fold_max {ι : Type} [Fintype ι] (f : ι → EReal) (lo : EReal) (h : lo = ⊥) : Finset.fold max lo f Finset.univ = Finset.univ.sup f := by
  subst h; rfl

/-- A row's maximum. -/
theorem maxT_apply (X : FVec Ideal S2x128x151936 .bf16) (b : Fin 2) (s : Fin 128) :
    maxT X (ix2 b s) = (Finset.univ : Finset (Fin 151936)).sup fun n => X (ix3 b s n) := by
  unfold maxT
  pointwise
  exact fold_max _ _ Cert.RowMath.ofBits_bot

/-- A test at an entry. -/
theorem testT_apply (v : FVec Ideal S2x128 .f32) (y : S2x128.Idx) :
    testT v y = IntOp.andi (BitVec.ofBool (decide (Ideal.ofBits .f32 0xFF800000#32 < v y))) (BitVec.ofBool (decide (v y < Ideal.ofBits .f32 0x7F800000#32))) := by
  unfold testT
  pointwise

/-- Where the precondition's function gives one, every row's test does. -/
theorem test_one (X : FVec Ideal S2x128x151936 .bf16) (h : fn (F := Ideal) X = fun _ => 1#1) (y : S2x128.Idx) : testT (maxT X) y = 1#1 := by
  have e : Host.reduce IntOp.andi (testT (maxT X)) (constantI S_ 1 1#1) reducesTo_S2x128_S_d0_1 h_S_ (fun a => a.elim0) = 1#1 := congrFun h _
  exact Host.reduce_andi_eq_one _ _ _ _ _ e y (funext fun a => a.elim0)

/-- A value that tests so is finite. -/
theorem finite_of_test (v : EReal)
    (e : IntOp.andi (BitVec.ofBool (decide (Ideal.ofBits .f32 0xFF800000#32 < v))) (BitVec.ofBool (decide (v < Ideal.ofBits .f32 0x7F800000#32))) = 1#1) :
    ∃ M : ℝ, v = M := by
  have ht : Ideal.ofBits .f32 0x7F800000#32 = ⊤ := by simp [Ideal.ofBits, Ideal.ieee]
  rw [ht, Cert.RowMath.ofBits_bot] at e
  obtain ⟨h1, h2⟩ : ⊥ < v ∧ v < ⊤ := by
    by_cases h1 : ⊥ < v <;> by_cases h2 : v < ⊤ <;> simp [h1, h2, IntOp.andi] at e ⊢
  exact ⟨_, (EReal.coe_toReal h2.ne h1.ne').symm⟩

/-- Where the precondition's function gives one, every row has a finite maximum. -/
theorem finite_max (X : FVec Ideal S2x128x151936 .bf16) (h : fn (F := Ideal) X = fun _ => 1#1) (b : Fin 2) (s : Fin 128) :
    ∃ M : ℝ, (Finset.univ : Finset (Fin 151936)).sup (fun n => X (ix3 b s n)) = M := by
  have e := test_one X h (ix2 b s)
  rw [testT_apply, maxT_apply] at e
  exact finite_of_test _ e

end Cert.Pre_rows_have_a_finite_maximum

end
-- ==== Proof.Equation.lean ====
/- The precondition gives every row a finite maximum; the two programs' results are then equal. -/
module

public import proofs.«01_k».proof.Proof.KernelResult
public import proofs.«01_k».proof.Proof.RefValue
public import proofs.«01_k».proof.Proof.RowMath
public import proofs.«01_k».proof.Proof.PreRow

@[expose] public section

set_option maxRecDepth 16384

noncomputable section

namespace Cert.Equation

open Idealize.ShloMosaic Idealize.ShloMosaic.Tactic Cert.KernelIdeal

/-- The precondition's function gives one only where the rows have finite maxima. -/
theorem finite_max (X : S2x128x151936.Idx → EReal) (h : Cert.Pre_rows_have_a_finite_maximum.fn (F := Ideal) X = fun _ => 1#1) (b : Fin 2) (s : Fin 128) :
    ∃ M : ℝ, vMax (Cert.KernelIdeal.argRow X b s) = M :=
  Cert.Pre_rows_have_a_finite_maximum.finite_max X h b s

/-- The two programs' rows are the argument's. -/
theorem argRow_eq (X : S2x128x151936.Idx → EReal) (b : Fin 2) (s : Fin 128) : Cert.ReferenceIdeal.argRow X b s = Cert.KernelIdeal.argRow X b s := rfl

variable (X : S2x128x151936.Idx → EReal) (h : Cert.Pre_rows_have_a_finite_maximum.fn (F := Ideal) X = fun _ => 1#1)

include h in
/-- The first results are equal. -/
theorem lse : Cert.ReferenceIdeal.refLse X = resLse X := funext fun y => by
  obtain ⟨M, hM⟩ := finite_max X h (y 0) (y 1)
  exact (Cert.RowMath.lse_eq _ M hM).symm

include h in
/-- The second results are equal. -/
theorem code : Cert.ReferenceIdeal.refCode X = resCode X := funext fun y => by
  obtain ⟨M, hM⟩ := finite_max X h (y 0) (y 1)
  exact (Cert.RowMath.code_eq _ M hM (y 2)).symm

include h in
/-- The third results are equal. -/
theorem scale : Cert.ReferenceIdeal.refScale X = resScale X := funext fun y => by
  obtain ⟨M, hM⟩ := finite_max X h (y 0) (y 1)
  exact (Cert.RowMath.scale_eq _ M hM).symm

end Cert.Equation

end
-- ==== Proof.lean ====
module

public import proofs.«01_k».proof.Defs
public import proofs.«01_k».proof.Proof.BitsFrame
public import proofs.«01_k».proof.Proof.Gen.Pre_rows_have_a_finite_maximum
public import proofs.«01_k».proof.Proof.Equation

@[expose] public section

noncomputable section

namespace Cert.Proof

open Idealize.ShloMosaic Idealize.SL.Sem

/-- The constant the idealized kernel names has the value its table gives it. -/
theorem preserves : Cert.preserves_Kernel_KernelIdeal :=
  IdealRules.named_const.statement Cert.KernelIdeal.κ "log2e_over_t" .f32 0x3FE6D4CA#32
    (((Real.log 2)⁻¹ * (13421773 / 16777216)⁻¹ : ℝ) : EReal) rfl

/-- Kernel and reference end with the same three results, the ones the kernel's run is proved to leave. -/
theorem algebraic : Cert.algebraic_KernelIdeal_ReferenceIdeal_pre_rows_have_a_finite_maximum := by
  intro m g m' g' hp ha
  refine ⟨fun c => Cert.KernelIdeal.resLse (m ((c.tc : Thread Cert.KernelIdeal.nD Cert.KernelIdeal.τ).loc Cert.KernelIdeal.main_arg0)),
    fun c => Cert.KernelIdeal.resCode (m ((c.tc : Thread Cert.KernelIdeal.nD Cert.KernelIdeal.τ).loc Cert.KernelIdeal.main_arg0)),
    fun c => Cert.KernelIdeal.resScale (m ((c.tc : Thread Cert.KernelIdeal.nD Cert.KernelIdeal.τ).loc Cert.KernelIdeal.main_arg0)),
    Cert.KernelIdeal.run m g, ?_⟩
  refine (θ_run Cert.ReferenceIdeal.defs _ _).mono (fun _ h c => ?_) (Cert.ReferenceIdeal.run m' g')
  obtain ⟨h0, h1, h2, h3⟩ := h c
  exact ⟨h0.trans ((congrArg Cert.ReferenceIdeal.refLse (ha c)).trans (Cert.Equation.lse _ (hp c))),
    h1.trans ((congrArg Cert.ReferenceIdeal.refCode (ha c)).trans (Cert.Equation.code _ (hp c))),
    h2.trans ((congrArg Cert.ReferenceIdeal.refScale (ha c)).trans (Cert.Equation.scale _ (hp c))), h3⟩

/-- Every claim of the certificate. -/
theorem claim : Cert.Claim :=
  ⟨Cert.Kernel.Gen.facts, Cert.KernelIdeal.Gen.facts, Cert.ReferenceIdeal.Gen.facts,
    Cert.Pre_rows_have_a_finite_maximum.Gen.facts,
    fun m ρ _ => Cert.Kernel.frame m ρ, fun m ρ _ => Cert.KernelIdeal.frameIdeal m ρ,
    fun m ρ _ => Cert.KernelIdeal.frameIdeal m ρ, fun m ρ _ => Cert.ReferenceIdeal.Gen.frame m ρ,
    fun m ρ _ => Cert.ReferenceIdeal.Gen.frame m ρ, preserves, algebraic⟩

end Cert.Proof

end
